-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)) →
    ∃ (v0 : (c : Dev Cert.Kernel9Ideal.nD) → Buf (Elt Ideal) ((c.tc : Thread Cert.Kernel9Ideal.nD Cert.Kernel9Ideal.τ).loc Cert.Kernel9Ideal.main_v15_0)) (v1 : (c : Dev Cert.Kernel9Ideal.nD) → Buf (Elt Ideal) ((c.tc : Thread Cert.Kernel9Ideal.nD Cert.Kernel9Ideal.τ).loc Cert.Kernel9Ideal.main_v15_1)) (v2 : (c : Dev Cert.Kernel9Ideal.nD) → Buf (Elt Ideal) ((c.tc : Thread Cert.Kernel9Ideal.nD Cert.Kernel9Ideal.τ).loc Cert.Kernel9Ideal.main_v15_3)) (v3 : (c : Dev Cert.Kernel9Ideal.nD) → Buf (Elt Ideal) ((c.tc : Thread Cert.Kernel9Ideal.nD Cert.Kernel9Ideal.τ).loc Cert.Kernel9Ideal.main_v15_5)) (v4 : (c : Dev Cert.Kernel9Ideal.nD) → Buf (Elt Ideal) ((c.tc : Thread Cert.Kernel9Ideal.nD Cert.Kernel9Ideal.τ).loc Cert.Kernel9Ideal.main_v15_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15_0) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_v15_3) = v2 c
          ∧ r.2.mem ((c.tc : Thread Cert.Kernel9Ideal.nD Cert.Kernel9Ideal.τ).loc Cert.Kernel9Ideal.main_v15_5) = v3 c
          ∧ r.2.mem ((c.tc : Thread Cert.Kernel9Ideal.nD Cert.Kernel9Ideal.τ).loc Cert.Kernel9Ideal.main_v15_6) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v128) = v0 c
          ∧ r.2.mem ((c.tc : Thread Cert.Reference9Ideal.nD Cert.Reference9Ideal.τ).loc Cert.Reference9Ideal.main_v129) = v1 c
          ∧ r.2.mem ((c.tc : Thread Cert.Reference9Ideal.nD Cert.Reference9Ideal.τ).loc Cert.Reference9Ideal.main_v130) = v2 c
          ∧ r.2.mem ((c.tc : Thread Cert.Reference9Ideal.nD Cert.Reference9Ideal.τ).loc Cert.Reference9Ideal.main_v131) = v3 c
          ∧ r.2.mem ((c.tc : Thread Cert.Reference9Ideal.nD Cert.Reference9Ideal.τ).loc Cert.Reference9Ideal.main_v132) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S2048x1024 : Shape := ⟨2, ![2048, 1024]⟩
abbrev S16x15x31 : Shape := ⟨3, ![16, 15, 31]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v16 : IVec S_ 1) (main_v17 : FVec F S16x15x31 .f32) : IVec S_ 1 :=
  let main_cst_4 : FVec F S_ .f32 := constant S_ .f32 0x7F800000#32
  let main_v18 : FVec F S16x15x31 .f32 := broadcastInDim S16x15x31 ![] bcast_S_S16x15x31 main_cst_4
  let main_v19 : IVec S16x15x31 1 := cmpf .olt main_v17 main_v18
  let main_c_5 : IVec S_ 1 := constantI S_ 1 1#1
  let main_v20 : IVec S_ 1 := (fun x v => Host.reduce IntOp.andi x v reducesTo_S16x15x31_S_d0_1_2 h_S_) main_v19 main_c_5
  let main_v21 : IVec S_ 1 := andi main_v16 main_v20
  main_v21

def fn {F : FTy → Type} [FloatOps F] (main_arg0 : FVec F S8192x1024 .bf16) (main_arg1 : FVec F S8192x1024 .bf16) (main_arg2 : FVec F S8192x1024 .bf16) (main_arg3 : FVec F S2048x1024 .bf16) (main_arg4 : FVec F S2048x1024 .bf16) (main_arg5 : FVec F S16x15x31 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S2048x1024 .f32 := (extf .f32 · bitsLt_bf16_f32) main_arg3
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  let main_v17 : FVec F S16x15x31 .f32 := Host.absf main_arg5
  fn_part1 (F := F) main_v16 main_v17
-- ==== Pre_finite7.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .bf16) (main_arg1 : FVec F S4096x1024 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  main_v10
-- ==== Kernel.lean ====
abbrev S8192x1024 : Shape := ⟨2, ![8192, 1024]⟩
abbrev S2048x1024 : Shape := ⟨2, ![2048, 1024]⟩
abbrev S16x15x31 : Shape := ⟨3, ![16, 15, 31]⟩
abbrev S31x64x64 : Shape := ⟨3, ![31, 64, 64]⟩
abbrev S16x15x64x64 : Shape := ⟨4, ![16, 15, 64, 64]⟩
abbrev S16x8x64x64 : Shape := ⟨4, ![16, 8, 64, 64]⟩
abbrev S1x16x8x64x64 : Shape := ⟨5, ![1, 16, 8, 64, 64]⟩
abbrev S8x16x8x64x64 : Shape := ⟨5, ![8, 16, 8, 64, 64]⟩
abbrev S8x16x64x8x64 : Shape := ⟨5, ![8, 16, 64, 8, 64]⟩
abbrev S8x16x64x512 : Shape := ⟨4, ![8, 16, 64, 512]⟩
abbrev S64x1024 : Shape := ⟨2, ![64, 1024]⟩
abbrev S1024x1024 : Shape := ⟨2, ![1024, 1024]⟩
abbrev S256x1024 : Shape := ⟨2, ![256, 1024]⟩
abbrev S1x16x64x512 : Shape := ⟨4, ![1, 16, 64, 512]⟩
abbrev S64x512 : Shape := ⟨2, ![64, 512]⟩
abbrev S1x128 : Shape := ⟨2, ![1, 128]⟩
abbrev S64x128 : Shape := ⟨2, ![64, 128]⟩
abbrev S512x128 : Shape := ⟨2, ![512, 128]⟩
abbrev S256x128 : Shape := ⟨2, ![256, 128]⟩
abbrev S1x1x64x512 : Shape := ⟨4, ![1, 1, 64, 512]⟩
abbrev S64x256 : Shape := ⟨2, ![64, 256]⟩
abbrev S64 : Shape := ⟨1, ![64]⟩
abbrev S64x1 : Shape := ⟨2, ![64, 1]⟩

abbrev nBuf : Space → Nat
  | .hbm => 28
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2048x1024, .bf16⟩
  | .hbm, ⟨4, _⟩ => ⟨S2048x1024, .bf16⟩
  | .hbm, ⟨5, _⟩ => ⟨S16x15x31, .f32⟩
  | .hbm, ⟨6, _⟩ => ⟨S31x64x64, .f32⟩
  | .hbm, ⟨7, _⟩ => ⟨S16x15x64x64, .f32⟩
  | .hbm, ⟨8, _⟩ => ⟨S16x8x64x64, .f32⟩
  | .hbm, ⟨9, _⟩ => ⟨S16x8x64x64, .f32⟩
  | .hbm, ⟨10, _⟩ => ⟨S16x8x64x64, .f32⟩
  | .hbm, ⟨11, _⟩ => ⟨S16x8x64x64, .f32⟩
  | .hbm, ⟨12, _⟩ => ⟨S16x8x64x64, .f32⟩
  | .hbm, ⟨13, _⟩ => ⟨S16x8x64x64, .f32⟩
  | .hbm, ⟨14, _⟩ => ⟨S16x8x64x64, .f32⟩
  | .hbm, ⟨15, _⟩ => ⟨S16x8x64x64, .f32⟩
  | .hbm, ⟨16, _⟩ => ⟨S1x16x8x64x64, .f32⟩
  | .hbm, ⟨17, _⟩ => ⟨S1x16x8x64x64, .f32⟩
  | .hbm, ⟨18, _⟩ => ⟨S1x16x8x64x64, .f32⟩
  | .hbm, ⟨19, _⟩ => ⟨S1x16x8x64x64, .f32⟩
  | .hbm, ⟨20, _⟩ => ⟨S1x16x8x64x64, .f32⟩
  | .hbm, ⟨21, _⟩ => ⟨S1x16x8x64x64, .f32⟩
  | .hbm, ⟨22, _⟩ => ⟨S1x16x8x64x64, .f32⟩
  | .hbm, ⟨23, _⟩ => ⟨S1x16x8x64x64, .f32⟩
  | .hbm, ⟨24, _⟩ => ⟨S8x16x8x64x64, .f32⟩
  | .hbm, ⟨25, _⟩ => ⟨S8x16x64x8x64, .f32⟩
  | .hbm, ⟨26, _⟩ => ⟨S8x16x64x512, .f32⟩
  | .hbm, ⟨27, _⟩ => ⟨S8192x1024, .bf16⟩
  | .local _ .vmem, ⟨0, _⟩ => ⟨S64x1024, .bf16⟩
  | .local _ .vmem, ⟨1, _⟩ => ⟨S64x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x16x64x512, .f32⟩
  | .local _ .vmem, ⟨11, _⟩ => ⟨S1x16x64x512, .f32⟩
  | .local _ .vmem, ⟨12, _⟩ => ⟨S64x1024, .bf16⟩
  | .local _ .vmem, ⟨13, _⟩ => ⟨S64x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  v3
def k0_off1 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v40 : Index := Scalar.indexCast v4
  let c0_10 : Index := 0#32
  ![v40.toNat, 0]
def k0_off2 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v74 : Index := Scalar.indexCast v4
  let c128_32 : Index := 128#32
  ![v74.toNat, 128]
def k0_off3 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v108 : Index := Scalar.indexCast v4
  let c256_54 : Index := 256#32
  ![v108.toNat, 256]
def k0_off4 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v142 : Index := Scalar.indexCast v4
  let c384_76 : Index := 384#32
  ![v142.toNat, 384]
def k0_off5 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v176 : Index := Scalar.indexCast v4
  let c512_98 : Index := 512#32
  ![v176.toNat, 512]
def k0_off6 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v210 : Index := Scalar.indexCast v4
  let c640_120 : Index := 640#32
  ![v210.toNat, 640]
def k0_off7 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v244 : Index := Scalar.indexCast v4
  let c768_142 : Index := 768#32
  ![v244.toNat, 768]
def k0_off8 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v278 : Index := Scalar.indexCast v4
  let c896_164 : Index := 896#32
  ![v278.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c8_i32 : BitVec 32 := 8#32
  let v1 : BitVec 32 := Scalar.maxsi c0_i32 v0
  let v2 : BitVec 32 := Scalar.minsi c8_i32 v1
  let v3 : BitVec 32 := Scalar.subi v2 arg1
  let c8_i32_0 : BitVec 32 := 8#32
  let v4 : BitVec 32 := Scalar.addi v3 c8_i32_0
  let c1_i32 : BitVec 32 := 1#32
  let v5 : BitVec 32 := Scalar.subi v4 c1_i32
  let c0_i32_1 : BitVec 32 := 0#32
  let c0_i32_2 : BitVec 32 := 0#32
  let c0_i32_3 : BitVec 32 := 0#32
  let c0_i32_4 : BitVec 32 := 0#32
  ![v5.toNat, c0_i32_1.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x1024 : Shape := ⟨2, ![8192, 1024]⟩
abbrev S2048x1024 : Shape := ⟨2, ![2048, 1024]⟩
abbrev S16x15x31 : Shape := ⟨3, ![16, 15, 31]⟩
abbrev S8x16x64x16x64 : Shape := ⟨5, ![8, 16, 64, 16, 64]⟩
abbrev S8x256x16x64 : Shape := ⟨4, ![8, 256, 16, 64]⟩
abbrev S16 : Shape := ⟨1, ![16]⟩
abbrev S_ : Shape := ⟨0, ![]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x1x64 : Shape := ⟨3, ![64, 1, 64]⟩
abbrev S64x8x64 : Shape := ⟨3, ![64, 8, 64]⟩
abbrev S64x512 : Shape := ⟨2, ![64, 512]⟩
abbrev S16x1x8x1 : Shape := ⟨4, ![16, 1, 8, 1]⟩
abbrev S1x64x1x64 : Shape := ⟨4, ![1, 64, 1, 64]⟩
abbrev S16x64x8x64 : Shape := ⟨4, ![16, 64, 8, 64]⟩
abbrev S16x64x8x64x1 : Shape := ⟨5, ![16, 64, 8, 64, 1]⟩
abbrev S16x64x8x64x2 : Shape := ⟨5, ![16, 64, 8, 64, 2]⟩
abbrev S16x16x64x8x64 : Shape := ⟨5, ![16, 16, 64, 8, 64]⟩
abbrev S16x16x64x512 : Shape := ⟨4, ![16, 16, 64, 512]⟩
abbrev S16x8x1 : Shape := ⟨3, ![16, 8, 1]⟩
abbrev S8x16x8x64x16x64 : Shape := ⟨6, ![8, 16, 8, 64, 16, 64]⟩
abbrev S8x16x512x16x64 : Shape := ⟨5, ![8, 16, 512, 16, 64]⟩
abbrev S8x16x16x64x512 : Shape := ⟨5, ![8, 16, 16, 64, 512]⟩
abbrev S1x16x16x64x512 : Shape := ⟨5, ![1, 16, 16, 64, 512]⟩
abbrev S1x1x1x64x512 : Shape := ⟨5, ![1, 1, 1, 64, 512]⟩
abbrev S8x16x16x64x256 : Shape := ⟨5, ![8, 16, 16, 64, 256]⟩
abbrev S8x16x16x64x768 : Shape := ⟨5, ![8, 16, 16, 64, 768]⟩
abbrev S8x16x16x64 : Shape := ⟨4, ![8, 16, 16, 64]⟩
abbrev S8x16x16x64x1 : Shape := ⟨5, ![8, 16, 16, 64, 1]⟩
abbrev S8x16x16x64x64 : Shape := ⟨5, ![8, 16, 16, 64, 64]⟩

abbrev nBuf : Space → Nat
  | .hbm => 174
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S2048x1024, .bf16⟩
  | 4 => ⟨S2048x1024, .bf16⟩
  | 5 => ⟨S16x15x31, .f32⟩
  | 6 => ⟨S8192x1024, .f32⟩
  | 7 => ⟨S8x16x64x16x64, .f32⟩
  | 8 => ⟨S8192x1024, .f32⟩
  | 9 => ⟨S8x16x64x16x64, .f32⟩
  | 10 => ⟨S8192x1024, .f32⟩
  | 11 => ⟨S8x16x64x16x64, .f32⟩
  | 12 => ⟨S2048x1024, .f32⟩
  | 13 => ⟨S8x256x16x64, .f32⟩
  | 14 => ⟨S2048x1024, .f32⟩
  | 15 => ⟨S8x256x16x64, .f32⟩
  | 16 => ⟨S16, .i32⟩
  | 17 => ⟨S_, .i32⟩
  | 18 => ⟨S16, .i32⟩
  | 19 => ⟨S16, .i32⟩
  | 20 => ⟨S_, .i32⟩
  | 21 => ⟨S_, .i32⟩
  | 22 => ⟨S_, .i32⟩
  | 23 => ⟨S16, .i32⟩
  | 24 => ⟨S16, .i32⟩
  | 25 => ⟨S_, .i32⟩
  | 26 => ⟨S16, .i32⟩
  | 27 => ⟨S16, .i32⟩
  | 28 => ⟨S16x1, .i32⟩
  | 29 => ⟨S8, .i32⟩
  | 30 => ⟨S1x8, .i32⟩
  | 31 => ⟨S16x8, .i32⟩
  | 32 => ⟨S16x8, .i32⟩
  | 33 => ⟨S16x8, .i32⟩
  | 34 => ⟨S16, .i32⟩
  | 35 => ⟨S16x1, .i32⟩
  | 36 => ⟨S16x8, .i32⟩
  | 37 => ⟨S16x8, .i32⟩
  | 38 => ⟨S_, .i32⟩
  | 39 => ⟨S16x8, .i32⟩
  | 40 => ⟨S16x8, .i32⟩
  | 41 => ⟨S64, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64, .i32⟩
  | 54 => ⟨S1x64, .i32⟩
  | 55 => ⟨S64x1, .i32⟩
  | 56 => ⟨S64x64, .i32⟩
  | 57 => ⟨S64x64, .i32⟩
  | 58 => ⟨S64x64, .i1⟩
  | 59 => ⟨S1x64, .i32⟩
  | 60 => ⟨S64x1, .i32⟩
  | 61 => ⟨S_, .i32⟩
  | 62 => ⟨S64x1, .i32⟩
  | 63 => ⟨S64x1, .i32⟩
  | 64 => ⟨S64x64, .i32⟩
  | 65 => ⟨S64x64, .i32⟩
  | 66 => ⟨S64x64, .i1⟩
  | 67 => ⟨S64x64, .i1⟩
  | 68 => ⟨S1x64, .i32⟩
  | 69 => ⟨S64x1, .i32⟩
  | 70 => ⟨S64x64, .i32⟩
  | 71 => ⟨S64x64, .i32⟩
  | 72 => ⟨S64x64, .i32⟩
  | 73 => ⟨S_, .i32⟩
  | 74 => ⟨S_, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i32⟩
  | 81 => ⟨S_, .i32⟩
  | 82 => ⟨S64x64, .i32⟩
  | 83 => ⟨S64x64, .i32⟩
  | 84 => ⟨S_, .i32⟩
  | 85 => ⟨S64x64, .i32⟩
  | 86 => ⟨S64x64, .i32⟩
  | 87 => ⟨S64x1x64, .i1⟩
  | 88 => ⟨S64x8x64, .i1⟩
  | 89 => ⟨S64x512, .i1⟩
  | 90 => ⟨S16x1x8x1, .i32⟩
  | 91 => ⟨S1x64x1x64, .i32⟩
  | 92 => ⟨S_, .i32⟩
  | 93 => ⟨S16x1x8x1, .i32⟩
  | 94 => ⟨S16x1x8x1, .i1⟩
  | 95 => ⟨S_, .i32⟩
  | 96 => ⟨S16x1x8x1, .i32⟩
  | 97 => ⟨S16x1x8x1, .i32⟩
  | 98 => ⟨S16x1x8x1, .i32⟩
  | 99 => ⟨S_, .i32⟩
  | 100 => ⟨S1x64x1x64, .i32⟩
  | 101 => ⟨S1x64x1x64, .i1⟩
  | 102 => ⟨S_, .i32⟩
  | 103 => ⟨S1x64x1x64, .i32⟩
  | 104 => ⟨S1x64x1x64, .i32⟩
  | 105 => ⟨S1x64x1x64, .i32⟩
  | 106 => ⟨S16x64x8x64, .i32⟩
  | 107 => ⟨S16x64x8x64, .i32⟩
  | 108 => ⟨S16x64x8x64x1, .i32⟩
  | 109 => ⟨S16x64x8x64x1, .i32⟩
  | 110 => ⟨S16x64x8x64x2, .i32⟩
  | 111 => ⟨S16x16x64x8x64, .f32⟩
  | 112 => ⟨S16x16x64x512, .f32⟩
  | 113 => ⟨S_, .i32⟩
  | 114 => ⟨S16x8, .i32⟩
  | 115 => ⟨S16x8, .i1⟩
  | 116 => ⟨S_, .i32⟩
  | 117 => ⟨S16x8, .i32⟩
  | 118 => ⟨S16x8, .i32⟩
  | 119 => ⟨S16x8, .i32⟩
  | 120 => ⟨S16x8x1, .i32⟩
  | 121 => ⟨S8x16x8x64x16x64, .f32⟩
  | 122 => ⟨S8x16x512x16x64, .f32⟩
  | 123 => ⟨S_, .i32⟩
  | 124 => ⟨S16x8, .i32⟩
  | 125 => ⟨S16x8, .i1⟩
  | 126 => ⟨S_, .i32⟩
  | 127 => ⟨S16x8, .i32⟩
  | _ => ⟨S8192x1024, .bf16⟩

abbrev hbmTy0_1 (i : Nat) : BufTy := match i % 128 with
  | 0 => ⟨S16x8, .i32⟩
  | 1 => ⟨S16x8, .i32⟩
  | 2 => ⟨S16x8x1, .i32⟩
  | 3 => ⟨S8x16x8x64x16x64, .f32⟩
  | 4 => ⟨S8x16x512x16x64, .f32⟩
  | 5 => ⟨S8x16x16x64x512, .f32⟩
  | 6 => ⟨S_, .f32⟩
  | 7 => ⟨S8x16x16x64x512, .f32⟩
  | 8 => ⟨S8x16x16x64x512, .f32⟩
  | 9 => ⟨S1x16x16x64x512, .f32⟩
  | 10 => ⟨S8x16x16x64x512, .f32⟩
  | 11 => ⟨S8x16x16x64x512, .f32⟩
  | 12 => ⟨S1x1x1x64x512, .i1⟩
  | 13 => ⟨S_, .f32⟩
  | 14 => ⟨S_, .f32⟩
  | 15 => ⟨S8x16x16x64x512, .i1⟩
  | 16 => ⟨S8x16x16x64x512, .f32⟩
  | 17 => ⟨S8x16x16x64x512, .f32⟩
  | 18 => ⟨S8x16x16x64x256, .f32⟩
  | 19 => ⟨S_, .f32⟩
  | 20 => ⟨S8x16x16x64x256, .f32⟩
  | 21 => ⟨S8x16x16x64x256, .f32⟩
  | 22 => ⟨S8x16x16x64x768, .f32⟩
  | 23 => ⟨S_, .f32⟩
  | 24 => ⟨S8x16x16x64, .f32⟩
  | 25 => ⟨S_, .f32⟩
  | 26 => ⟨S8x16x16x64, .f32⟩
  | 27 => ⟨S8x16x16x64, .f32⟩
  | 28 => ⟨S8x16x16x64x1, .f32⟩
  | 29 => ⟨S8x16x16x64x768, .f32⟩
  | 30 => ⟨S8x16x16x64x768, .f32⟩
  | 31 => ⟨S8x16x16x64x768, .f32⟩
  | 32 => ⟨S_, .f32⟩
  | 33 => ⟨S8x16x16x64, .f32⟩
  | 34 => ⟨S8x16x16x64x1, .f32⟩
  | 35 => ⟨S8x16x16x64x768, .f32⟩
  | 36 => ⟨S8x16x16x64x768, .f32⟩
  | 37 => ⟨S8x16x16x64x512, .f32⟩
  | 38 => ⟨S8x16x16x64x64, .f32⟩
  | 39 => ⟨S8x16x64x16x64, .f32⟩
  | 40 => ⟨S8x16x16x64x256, .f32⟩
  | 41 => ⟨S8x16x64x16x64, .f32⟩
  | 42 => ⟨S8x16x64x16x64, .f32⟩
  | 43 => ⟨S8x16x64x16x64, .f32⟩
  | 44 => ⟨S8192x1024, .f32⟩
  | 45 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_c_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_15 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_23 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S8x6x1024 : Shape := ⟨3, ![8, 6, 1024]⟩
abbrev S1024x2048 : Shape := ⟨2, ![1024, 2048]⟩
abbrev S1x1024 : Shape := ⟨2, ![1, 1024]⟩
abbrev S8192x2048 : Shape := ⟨2, ![8192, 2048]⟩
abbrev S1024x8192 : Shape := ⟨2, ![1024, 8192]⟩
abbrev S512x1024 : Shape := ⟨2, ![512, 1024]⟩
abbrev S1x6x1024 : Shape := ⟨3, ![1, 6, 1024]⟩
abbrev S512x2048 : Shape := ⟨2, ![512, 2048]⟩
abbrev S1024x512 : Shape := ⟨2, ![1024, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6x1024, .f32⟩
  | .hbm, ⟨3, _⟩ => ⟨S1024x2048, .bf16⟩
  | .hbm, ⟨4, _⟩ => ⟨S1x1024, .f32⟩
  | .hbm, ⟨5, _⟩ => ⟨S8192x2048, .bf16⟩
  | .hbm, ⟨6, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x1024 : Shape := ⟨2, ![8192, 1024]⟩
abbrev S1024 : Shape := ⟨1, ![1024]⟩
abbrev S8x6x1024 : Shape := ⟨3, ![8, 6, 1024]⟩
abbrev S1024x2048 : Shape := ⟨2, ![1024, 2048]⟩
abbrev S8x1024x1024 : Shape := ⟨3, ![8, 1024, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S8192x2048 : Shape := ⟨2, ![8192, 2048]⟩
abbrev S1024x8192 : Shape := ⟨2, ![1024, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6x1024, .f32⟩
  | .hbm, ⟨3, _⟩ => ⟨S1024x2048, .bf16⟩
  | .hbm, ⟨4, _⟩ => ⟨S8x1024x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x1024x1024, .f32⟩
  | .hbm, ⟨10, _⟩ => ⟨S_, .f32⟩
  | .hbm, ⟨11, _⟩ => ⟨S8x1024, .f32⟩
  | .hbm, ⟨12, _⟩ => ⟨S8x1024x1, .f32⟩
  | .hbm, ⟨13, _⟩ => ⟨S_, .f32⟩
  | .hbm, ⟨14, _⟩ => ⟨S8x1024x1, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S8x1024x1, .f32⟩
  | .hbm, ⟨20, _⟩ => ⟨S8x1024x1024, .f32⟩
  | .hbm, ⟨21, _⟩ => ⟨S8x1024x1024, .f32⟩
  | .hbm, ⟨22, _⟩ => ⟨S1x1x1024, .f32⟩
  | .hbm, ⟨23, _⟩ => ⟨S8x1024x1024, .f32⟩
  | .hbm, ⟨24, _⟩ => ⟨S8x1024x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x1024x1024, .f32⟩
  | .hbm, ⟨30, _⟩ => ⟨S8x1024x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8192x1024, .f32⟩
  | .hbm, ⟨35, _⟩ => ⟨S1024x2048, .f32⟩
  | .hbm, ⟨36, _⟩ => ⟨S8192x2048, .f32⟩
  | .hbm, ⟨37, _⟩ => ⟨S8192x2048, .bf16⟩
  | .hbm, ⟨38, _⟩ => ⟨S1024x8192, .f32⟩
  | .hbm, ⟨39, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1x6x1024 : Shape := ⟨3, ![1, 6, 1024]⟩
abbrev S1024x3072 : Shape := ⟨2, ![1024, 3072]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x6x1024, .f32⟩
  | .hbm, ⟨3, _⟩ => ⟨S1024x3072, .bf16⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4096x1024 : Shape := ⟨2, ![4096, 1024]⟩
abbrev S1024 : Shape := ⟨1, ![1024]⟩
abbrev S1x6x1024 : Shape := ⟨3, ![1, 6, 1024]⟩
abbrev S1024x3072 : Shape := ⟨2, ![1024, 3072]⟩
abbrev S16x256x1024 : Shape := ⟨3, ![16, 256, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S4096x3072 : Shape := ⟨2, ![4096, 3072]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x6x1024, .f32⟩
  | .hbm, ⟨3, _⟩ => ⟨S1024x3072, .bf16⟩
  | .hbm, ⟨4, _⟩ => ⟨S16x256x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S16x256x1024, .f32⟩
  | .hbm, ⟨10, _⟩ => ⟨S_, .f32⟩
  | .hbm, ⟨11, _⟩ => ⟨S16x256, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S16x256x1, .f32⟩
  | .hbm, ⟨20, _⟩ => ⟨S16x256x1024, .f32⟩
  | .hbm, ⟨21, _⟩ => ⟨S16x256x1024, .f32⟩
  | .hbm, ⟨22, _⟩ => ⟨S1x1x1024, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S4096x1024, .f32⟩
  | .hbm, ⟨35, _⟩ => ⟨S1024x3072, .f32⟩
  | .hbm, ⟨36, _⟩ => ⟨S4096x3072, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S8x6x1024 : Shape := ⟨3, ![8, 6, 1024]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8x6x1024, .f32⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S512x1024, .f32⟩
  | .local _ .vmem, ⟨8, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x1024 : Shape := ⟨2, ![8192, 1024]⟩
abbrev S1024x1024 : Shape := ⟨2, ![1024, 1024]⟩
abbrev S8x6x1024 : Shape := ⟨3, ![8, 6, 1024]⟩
abbrev S8x1024x1024 : Shape := ⟨3, ![8, 1024, 1024]⟩
abbrev S8x1x1024 : Shape := ⟨3, ![8, 1, 1024]⟩
abbrev S8x1024 : Shape := ⟨2, ![8, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8x6x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8x1024x1024, .f32⟩
  | .hbm, ⟨8, _⟩ => ⟨S8x1024x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1024x1024, .f32⟩
  | .hbm, ⟨13, _⟩ => ⟨S8x1024x1024, .f32⟩
  | .hbm, ⟨14, _⟩ => ⟨S8x1024x1024, .f32⟩
  | .hbm, ⟨15, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S8x6x1024 : Shape := ⟨3, ![8, 6, 1024]⟩
abbrev S1024x1024 : Shape := ⟨2, ![1024, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6x1024, .f32⟩
  | .hbm, ⟨3, _⟩ => ⟨S1024x1024, .bf16⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x1024 : Shape := ⟨2, ![8192, 1024]⟩
abbrev S1024 : Shape := ⟨1, ![1024]⟩
abbrev S8x6x1024 : Shape := ⟨3, ![8, 6, 1024]⟩
abbrev S1024x1024 : Shape := ⟨2, ![1024, 1024]⟩
abbrev S8x1024x1024 : Shape := ⟨3, ![8, 1024, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6x1024, .f32⟩
  | .hbm, ⟨3, _⟩ => ⟨S1024x1024, .bf16⟩
  | .hbm, ⟨4, _⟩ => ⟨S8x1024x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x1024x1024, .f32⟩
  | .hbm, ⟨10, _⟩ => ⟨S_, .f32⟩
  | .hbm, ⟨11, _⟩ => ⟨S8x1024, .f32⟩
  | .hbm, ⟨12, _⟩ => ⟨S8x1024x1, .f32⟩
  | .hbm, ⟨13, _⟩ => ⟨S_, .f32⟩
  | .hbm, ⟨14, _⟩ => ⟨S8x1024x1, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S8x1024x1, .f32⟩
  | .hbm, ⟨20, _⟩ => ⟨S8x1024x1024, .f32⟩
  | .hbm, ⟨21, _⟩ => ⟨S8x1024x1024, .f32⟩
  | .hbm, ⟨22, _⟩ => ⟨S1x1x1024, .f32⟩
  | .hbm, ⟨23, _⟩ => ⟨S8x1024x1024, .f32⟩
  | .hbm, ⟨24, _⟩ => ⟨S8x1024x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x1024x1024, .f32⟩
  | .hbm, ⟨30, _⟩ => ⟨S8x1024x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8192x1024, .f32⟩
  | .hbm, ⟨35, _⟩ => ⟨S1024x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1024 : Shape := ⟨2, ![8192, 1024]⟩
abbrev S1024 : Shape := ⟨1, ![1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x1024, .f32⟩
  | .hbm, ⟨3, _⟩ => ⟨S8x1024x1024, .f32⟩
  | .hbm, ⟨4, _⟩ => ⟨S_, .f32⟩
  | .hbm, ⟨5, _⟩ => ⟨S8x1024, .f32⟩
  | .hbm, ⟨6, _⟩ => ⟨S8x1024x1, .f32⟩
  | .hbm, ⟨7, _⟩ => ⟨S_, .f32⟩
  | .hbm, ⟨8, _⟩ => ⟨S8x1024x1, .f32⟩
  | .hbm, ⟨9, _⟩ => ⟨S8x1024x1, .f32⟩
  | .hbm, ⟨10, _⟩ => ⟨S_, .f32⟩
  | .hbm, ⟨11, _⟩ => ⟨S8x1024x1, .f32⟩
  | .hbm, ⟨12, _⟩ => ⟨S8x1024x1, .f32⟩
  | .hbm, ⟨13, _⟩ => ⟨S8x1024x1, .f32⟩
  | .hbm, ⟨14, _⟩ => ⟨S8x1024x1024, .f32⟩
  | .hbm, ⟨15, _⟩ => ⟨S8x1024x1024, .f32⟩
  | .hbm, ⟨16, _⟩ => ⟨S1x1x1024, .f32⟩
  | .hbm, ⟨17, _⟩ => ⟨S8x1024x1024, .f32⟩
  | .hbm, ⟨18, _⟩ => ⟨S8x1024x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel7.lean ====
abbrev S4096x1024 : Shape := ⟨2, ![4096, 1024]⟩
abbrev S256x1024 : Shape := ⟨2, ![256, 1024]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S16x256x16x64 : Shape := ⟨4, ![16, 256, 16, 64]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x64x256 : Shape := ⟨4, ![16, 16, 64, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S16x256x16x64, .f32⟩
  | .hbm, ⟨5, _⟩ => ⟨S4096x1024, .f32⟩
  | .hbm, ⟨6, _⟩ => ⟨S16x256x16x64, .f32⟩
  | .hbm, ⟨7, _⟩ => ⟨S4096x1024, .f32⟩
  | .hbm, ⟨8, _⟩ => ⟨S16x256x16x64, .f32⟩
  | .hbm, ⟨9, _⟩ => ⟨S16x16x256x256, .f32⟩
  | .hbm, ⟨10, _⟩ => ⟨S_, .f32⟩
  | .hbm, ⟨11, _⟩ => ⟨S16x16x256x256, .f32⟩
  | .hbm, ⟨12, _⟩ => ⟨S16x16x256x256, .f32⟩
  | .hbm, ⟨13, _⟩ => ⟨S_, .f32⟩
  | .hbm, ⟨14, _⟩ => ⟨S16x16x256, .f32⟩
  | .hbm, ⟨15, _⟩ => ⟨S_, .f32⟩
  | .hbm, ⟨16, _⟩ => ⟨S16x16x256, .f32⟩
  | .hbm, ⟨17, _⟩ => ⟨S16x16x256, .f32⟩
  | .hbm, ⟨18, _⟩ => ⟨S16x16x256x1, .f32⟩
  | .hbm, ⟨19, _⟩ => ⟨S16x16x256x256, .f32⟩
  | .hbm, ⟨20, _⟩ => ⟨S16x16x256x256, .f32⟩
  | .hbm, ⟨21, _⟩ => ⟨S16x16x256x256, .f32⟩
  | .hbm, ⟨22, _⟩ => ⟨S_, .f32⟩
  | .hbm, ⟨23, _⟩ => ⟨S16x16x256, .f32⟩
  | .hbm, ⟨24, _⟩ => ⟨S16x16x256x1, .f32⟩
  | .hbm, ⟨25, _⟩ => ⟨S16x16x256x256, .f32⟩
  | .hbm, ⟨26, _⟩ => ⟨S16x16x256x256, .f32⟩
  | .hbm, ⟨27, _⟩ => ⟨S16x16x64x256, .f32⟩
  | .hbm, ⟨28, _⟩ => ⟨S16x256x16x64, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel8.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S8x6x1024 : Shape := ⟨3, ![8, 6, 1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S16x64 : Shape := ⟨2, ![16, 64]⟩
abbrev S1x1024 : Shape := ⟨2, ![1, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S2x8192x1024 : Shape := ⟨3, ![2, 8192, 1024]⟩
abbrev S256x1024 : Shape := ⟨2, ![256, 1024]⟩
abbrev S8x1024 : Shape := ⟨2, ![8, 1024]⟩
abbrev S1x6x1024 : Shape := ⟨3, ![1, 6, 1024]⟩
abbrev S2x256x1024 : Shape := ⟨3, ![2, 256, 1024]⟩
abbrev S1x1x1024 : Shape := ⟨3, ![1, 1, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x128 : Shape := ⟨2, ![256, 128]⟩
abbrev S1x1024x64 : Shape := ⟨3, ![1, 1024, 64]⟩
abbrev S1024x64 : Shape := ⟨2, ![1024, 64]⟩
abbrev S256x64 : Shape := ⟨2, ![256, 64]⟩
abbrev S1x64x1024 : Shape := ⟨3, ![1, 64, 1024]⟩
abbrev S64x1024 : Shape := ⟨2, ![64, 1024]⟩
abbrev S1x256x1024 : Shape := ⟨3, ![1, 256, 1024]⟩

abbrev nBuf : Space → Nat
  | .hbm => 42
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x6x1024, .f32⟩
  | .hbm, ⟨3, _⟩ => ⟨S6x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x128, .bf16⟩
  | .hbm, ⟨8, _⟩ => ⟨S128x1024, .bf16⟩
  | .hbm, ⟨9, _⟩ => ⟨S2x1024, .f32⟩
  | .hbm, ⟨10, _⟩ => ⟨S2x1024x64, .bf16⟩
  | .hbm, ⟨11, _⟩ => ⟨S2x64x1024, .bf16⟩
  | .hbm, ⟨12, _⟩ => ⟨S2x1024, .f32⟩
  | .hbm, ⟨13, _⟩ => ⟨S2x1024x64, .bf16⟩
  | .hbm, ⟨14, _⟩ => ⟨S2x64x1024, .bf16⟩
  | .hbm, ⟨15, _⟩ => ⟨S1024, .f32⟩
  | .hbm, ⟨16, _⟩ => ⟨S1024, .f32⟩
  | .hbm, ⟨17, _⟩ => ⟨S16x64, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S128, .i32⟩
  | .hbm, ⟨28, _⟩ => ⟨S1x128, .i32⟩
  | .hbm, ⟨29, _⟩ => ⟨S1024x128, .i32⟩
  | .hbm, ⟨30, _⟩ => ⟨S1024x128, .i32⟩
  | .hbm, ⟨31, _⟩ => ⟨S1024x128, .i1⟩
  | .hbm, ⟨32, _⟩ => ⟨S1024x128, .f32⟩
  | .hbm, ⟨33, _⟩ => ⟨S1024x128, .bf16⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S6x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S128x1024, .bf16⟩
  | .local _ .vmem, ⟨15, _⟩ => ⟨S2x1024, .f32⟩
  | .local _ .vmem, ⟨16, _⟩ => ⟨S2x1024x64, .bf16⟩
  | .local _ .vmem, ⟨17, _⟩ => ⟨S2x64x1024, .bf16⟩
  | .local _ .vmem, ⟨18, _⟩ => ⟨S2x1024, .f32⟩
  | .local _ .vmem, ⟨19, _⟩ => ⟨S2x1024x64, .bf16⟩
  | .local _ .vmem, ⟨20, _⟩ => ⟨S2x64x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x128, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S2x256x1024, .f32⟩
  | .local _ .vmem, ⟨36, _⟩ => ⟨S2x256x1024, .f32⟩
  | .local _ .vmem, ⟨37, _⟩ => ⟨S2x256x1024, .f32⟩
  | .local _ .vmem, ⟨38, _⟩ => ⟨S2x256x1024, .f32⟩
  | .local _ .vmem, ⟨39, _⟩ => ⟨S2x256x1024, .f32⟩
  | .local _ .vmem, ⟨40, _⟩ => ⟨S2x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v15_4 : Ref sig .tc := ⟨.hbm, 38, rfl⟩
abbrev main_v15_5 : Ref sig .tc := ⟨.hbm, 39, rfl⟩
abbrev main_v15_6 : Ref sig .tc := ⟨.hbm, 40, rfl⟩
abbrev main_v15_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x64x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2x256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference9Ideal.lean ====
abbrev S8192x1024 : Shape := ⟨2, ![8192, 1024]⟩
abbrev S1024 : Shape := ⟨1, ![1024]⟩
abbrev S8x6x1024 : Shape := ⟨3, ![8, 6, 1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S16x64 : Shape := ⟨2, ![16, 64]⟩
abbrev S8x1024x1024 : Shape := ⟨3, ![8, 1024, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S8x1023x1024 : Shape := ⟨3, ![8, 1023, 1024]⟩
abbrev S1x1024 : Shape := ⟨2, ![1, 1024]⟩
abbrev S8x1024x128 : Shape := ⟨3, ![8, 1024, 128]⟩
abbrev S2x1x1x1024 : Shape := ⟨4, ![2, 1, 1, 1024]⟩
abbrev S2x64x8x1024 : Shape := ⟨4, ![2, 64, 8, 1024]⟩
abbrev S2x8x1024x64 : Shape := ⟨4, ![2, 8, 1024, 64]⟩
abbrev S2x8x1024x1024 : Shape := ⟨4, ![2, 8, 1024, 1024]⟩
abbrev S1x1x1x1024 : Shape := ⟨4, ![1, 1, 1, 1024]⟩
abbrev S1x8x1024x1024 : Shape := ⟨4, ![1, 8, 1024, 1024]⟩
abbrev S2x8192x1024 : Shape := ⟨3, ![2, 8192, 1024]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S1024, .f32⟩
  | 2 => ⟨S8x6x1024, .f32⟩
  | 3 => ⟨S6x1024, .f32⟩
  | 4 => ⟨S1024x1024, .bf16⟩
  | 5 => ⟨S1024x1024, .bf16⟩
  | 6 => ⟨S1024x1024, .bf16⟩
  | 7 => ⟨S1024x128, .bf16⟩
  | 8 => ⟨S128x1024, .bf16⟩
  | 9 => ⟨S2x1024, .f32⟩
  | 10 => ⟨S2x1024x64, .bf16⟩
  | 11 => ⟨S2x64x1024, .bf16⟩
  | 12 => ⟨S2x1024, .f32⟩
  | 13 => ⟨S2x1024x64, .bf16⟩
  | 14 => ⟨S2x64x1024, .bf16⟩
  | 15 => ⟨S1024, .f32⟩
  | 16 => ⟨S1024, .f32⟩
  | 17 => ⟨S16x64, .f32⟩
  | 18 => ⟨S1024x1024, .f32⟩
  | 19 => ⟨S1024x1024, .f32⟩
  | 20 => ⟨S1024x1024, .f32⟩
  | 21 => ⟨S1024x128, .f32⟩
  | 22 => ⟨S128x1024, .f32⟩
  | 23 => ⟨S2x1024x64, .f32⟩
  | 24 => ⟨S2x64x1024, .f32⟩
  | 25 => ⟨S2x1024x64, .f32⟩
  | 26 => ⟨S2x64x1024, .f32⟩
  | 27 => ⟨S8x1024x1024, .f32⟩
  | 28 => ⟨S8x1x1024, .f32⟩
  | 29 => ⟨S8x1024, .f32⟩
  | 30 => ⟨S8x1x1024, .f32⟩
  | 31 => ⟨S8x1024, .f32⟩
  | 32 => ⟨S8x1024x1024, .f32⟩
  | 33 => ⟨S_, .f32⟩
  | 34 => ⟨S8x1024, .f32⟩
  | 35 => ⟨S8x1024x1, .f32⟩
  | 36 => ⟨S_, .f32⟩
  | 37 => ⟨S8x1024x1, .f32⟩
  | 38 => ⟨S8x1024x1, .f32⟩
  | 39 => ⟨S_, .f32⟩
  | 40 => ⟨S8x1024x1, .f32⟩
  | 41 => ⟨S8x1024x1, .f32⟩
  | 42 => ⟨S8x1024x1, .f32⟩
  | 43 => ⟨S8x1024x1024, .f32⟩
  | 44 => ⟨S8x1024x1024, .f32⟩
  | 45 => ⟨S1x1x1024, .f32⟩
  | 46 => ⟨S8x1024x1024, .f32⟩
  | 47 => ⟨S8x1024x1024, .f32⟩
  | 48 => ⟨S8x1x1024, .f32⟩
  | 49 => ⟨S_, .f32⟩
  | 50 => ⟨S8x1x1024, .f32⟩
  | 51 => ⟨S8x1x1024, .f32⟩
  | 52 => ⟨S8x1024x1024, .f32⟩
  | 53 => ⟨S8x1024x1024, .f32⟩
  | 54 => ⟨S8x1x1024, .f32⟩
  | 55 => ⟨S8x1024x1024, .f32⟩
  | 56 => ⟨S8x1024x1024, .f32⟩
  | 57 => ⟨S8x1x1024, .f32⟩
  | 58 => ⟨S_, .f32⟩
  | 59 => ⟨S8x1x1024, .f32⟩
  | 60 => ⟨S8x1023x1024, .f32⟩
  | 61 => ⟨S8x1024x1024, .f32⟩
  | 62 => ⟨S8x1023x1024, .f32⟩
  | 63 => ⟨S8x1024x1024, .f32⟩
  | 64 => ⟨S8x1024x1024, .f32⟩
  | 65 => ⟨S_, .f32⟩
  | 66 => ⟨S8x1024x1024, .f32⟩
  | 67 => ⟨S8x1024x1024, .f32⟩
  | 68 => ⟨S8x1024x1024, .f32⟩
  | 69 => ⟨S1x1024, .f32⟩
  | 70 => ⟨S1024, .f32⟩
  | 71 => ⟨S1x1x1024, .f32⟩
  | 72 => ⟨S8x1024x1024, .f32⟩
  | 73 => ⟨S8x1024x1024, .f32⟩
  | 74 => ⟨S8x1024x1024, .f32⟩
  | 75 => ⟨S1x1024, .f32⟩
  | 76 => ⟨S1024, .f32⟩
  | 77 => ⟨S1x1x1024, .f32⟩
  | 78 => ⟨S8x1024x1024, .f32⟩
  | 79 => ⟨S8x1024x1024, .f32⟩
  | 80 => ⟨S8x1024x1024, .f32⟩
  | 81 => ⟨S1x1024, .f32⟩
  | 82 => ⟨S1024, .f32⟩
  | 83 => ⟨S1x1x1024, .f32⟩
  | 84 => ⟨S8x1024x1024, .f32⟩
  | 85 => ⟨S8x1024x1024, .f32⟩
  | 86 => ⟨S8x1024x1024, .f32⟩
  | 87 => ⟨S1x1024, .f32⟩
  | 88 => ⟨S1024, .f32⟩
  | 89 => ⟨S1x1x1024, .f32⟩
  | 90 => ⟨S8x1024x1024, .f32⟩
  | 91 => ⟨S8x1024x1024, .f32⟩
  | 92 => ⟨S8x1024x1024, .f32⟩
  | 93 => ⟨S1x1024, .f32⟩
  | 94 => ⟨S1024, .f32⟩
  | 95 => ⟨S1x1x1024, .f32⟩
  | 96 => ⟨S8x1024x1024, .f32⟩
  | 97 => ⟨S8x1024x1024, .f32⟩
  | 98 => ⟨S8x1024x1024, .f32⟩
  | 99 => ⟨S1x1024, .f32⟩
  | 100 => ⟨S1024, .f32⟩
  | 101 => ⟨S1x1x1024, .f32⟩
  | 102 => ⟨S8x1024x1024, .f32⟩
  | 103 => ⟨S8x1024x1024, .f32⟩
  | 104 => ⟨S8x1024x1024, .f32⟩
  | 105 => ⟨S8x1024x1024, .f32⟩
  | 106 => ⟨S8x1024x1024, .f32⟩
  | 107 => ⟨S8x1024x1024, .f32⟩
  | 108 => ⟨S8x1024x128, .f32⟩
  | 109 => ⟨S8x1024x128, .f32⟩
  | 110 => ⟨S8x1024x128, .f32⟩
  | 111 => ⟨S_, .f32⟩
  | 112 => ⟨S8x1024x128, .f32⟩
  | 113 => ⟨S8x1024x128, .f32⟩
  | 114 => ⟨S_, .f32⟩
  | 115 => ⟨S8x1024x128, .f32⟩
  | 116 => ⟨S8x1024x128, .f32⟩
  | 117 => ⟨S8x1024x1024, .f32⟩
  | 118 => ⟨S2x1x1x1024, .f32⟩
  | 119 => ⟨S2x64x8x1024, .f32⟩
  | 120 => ⟨S2x8x1024x64, .f32⟩
  | 121 => ⟨S2x8x1024x64, .f32⟩
  | 122 => ⟨S2x8x1024x1024, .f32⟩
  | 123 => ⟨S2x8x1024x1024, .f32⟩
  | 124 => ⟨S2x8x1024x1024, .f32⟩
  | 125 => ⟨S2x8x1024x1024, .f32⟩
  | 126 => ⟨S_, .f32⟩
  | 127 => ⟨S2x8x1024x1024, .f32⟩
  | _ => ⟨S8192x1024, .f32⟩

abbrev hbmTy0_1 (i : Nat) : BufTy := match i % 128 with
  | 0 => ⟨S2x8x1024x1024, .f32⟩
  | 1 => ⟨S2x8x1024x1024, .f32⟩
  | 2 => ⟨S2x8x1024x1024, .f32⟩
  | 3 => ⟨S2x8x1024x1024, .i1⟩
  | 4 => ⟨S2x8x1024x1024, .f32⟩
  | 5 => ⟨S2x8x1024x1024, .f32⟩
  | 6 => ⟨S2x8x1024x1024, .f32⟩
  | 7 => ⟨S2x8x1024x1024, .f32⟩
  | 8 => ⟨S2x8x1024x1024, .f32⟩
  | 9 => ⟨S2x8x1024x1024, .f32⟩
  | 10 => ⟨S2x8x1024x1024, .f32⟩
  | 11 => ⟨S2x8x1024x1024, .f32⟩
  | 12 => ⟨S2x8x1024x1024, .f32⟩
  | 13 => ⟨S_, .f32⟩
  | 14 => ⟨S2x8x1024x1024, .f32⟩
  | 15 => ⟨S2x8x1024x1024, .f32⟩
  | 16 => ⟨S2x8x1024x1024, .f32⟩
  | 17 => ⟨S2x8x1024x1024, .f32⟩
  | 18 => ⟨S2x1x1x1024, .f32⟩
  | 19 => ⟨S2x64x8x1024, .f32⟩
  | 20 => ⟨S2x8x1024x64, .f32⟩
  | 21 => ⟨S2x8x1024x1024, .f32⟩
  | 22 => ⟨S2x8x1024x1024, .f32⟩
  | 23 => ⟨S2x8x1024x1024, .f32⟩
  | 24 => ⟨S2x8x1024x1024, .f32⟩
  | 25 => ⟨S2x8x1024x1024, .f32⟩
  | 26 => ⟨S_, .f32⟩
  | 27 => ⟨S2x8x1024x1024, .f32⟩
  | 28 => ⟨S2x8x1024x1024, .f32⟩
  | 29 => ⟨S_, .f32⟩
  | 30 => ⟨S2x8x1024x1024, .f32⟩
  | 31 => ⟨S2x8x1024x1024, .f32⟩
  | 32 => ⟨S_, .f32⟩
  | 33 => ⟨S2x8x1024x1024, .f32⟩
  | 34 => ⟨S2x8x1024x1024, .f32⟩
  | 35 => ⟨S1x1x1x1024, .f32⟩
  | 36 => ⟨S2x8x1024x1024, .f32⟩
  | 37 => ⟨S2x8x1024x1024, .f32⟩
  | 38 => ⟨S_, .f32⟩
  | 39 => ⟨S2x8x1024x1024, .f32⟩
  | 40 => ⟨S2x8x1024x1024, .f32⟩
  | 41 => ⟨S1x8x1024x1024, .f32⟩
  | 42 => ⟨S2x8x1024x1024, .f32⟩
  | 43 => ⟨S2x8x1024x1024, .f32⟩
  | 44 => ⟨S8192x1024, .f32⟩
  | 45 => ⟨S8192x1024, .f32⟩
  | 46 => ⟨S8192x1024, .f32⟩
  | 47 => ⟨S2x8192x1024, .f32⟩
  | 48 => ⟨S2x8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_5 : Ref sig .tc := ⟨.hbm, 111, rfl⟩
abbrev main_v87 : Ref sig .tc := ⟨.hbm, 112, rfl⟩
abbrev main_v88 : Ref sig .tc := ⟨.hbm, 113, rfl⟩
abbrev main_cst_6 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_call0_cst : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_call0_v3 : Ref sig .tc := ⟨.hbm, 130, rfl⟩
abbrev main_call0_v4 : Ref sig .tc := ⟨.hbm, 131, rfl⟩
abbrev main_call0_v5 : Ref sig .tc := ⟨.hbm, 132, rfl⟩
abbrev main_call0_v6 : Ref sig .tc := ⟨.hbm, 133, rfl⟩
abbrev main_call0_v7 : Ref sig .tc := ⟨.hbm, 134, rfl⟩
abbrev main_call0_v8 : Ref sig .tc := ⟨.hbm, 135, rfl⟩
abbrev main_call0_v9 : Ref sig .tc := ⟨.hbm, 136, rfl⟩
abbrev main_call0_v10 : Ref sig .tc := ⟨.hbm, 137, rfl⟩
abbrev main_call0_v11 : Ref sig .tc := ⟨.hbm, 138, rfl⟩
abbrev main_v100 : Ref sig .tc := ⟨.hbm, 139, rfl⟩
abbrev main_v101 : Ref sig .tc := ⟨.hbm, 140, rfl⟩
abbrev main_cst_7 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_8 : Ref sig .tc := ⟨.hbm, 154, rfl⟩
abbrev main_v114 : Ref sig .tc := ⟨.hbm, 155, rfl⟩
abbrev main_v115 : Ref sig .tc := ⟨.hbm, 156, rfl⟩
abbrev main_cst_9 : Ref sig .tc := ⟨.hbm, 157, rfl⟩
abbrev main_v116 : Ref sig .tc := ⟨.hbm, 158, rfl⟩
abbrev main_v117 : Ref sig .tc := ⟨.hbm, 159, rfl⟩
abbrev main_cst_10 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_11 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩

abbrev nD : Nat := 1
abbrev τ : Topo := Topo.v7x

variable {F : FTy → Type} [FloatOps F]
-- ==== Proof.Final2.lean ====
/- The query projection of the expert mixer: both arrays after the run are the reference's. -/
module

public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Final

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![t.val, 0] ∧ win0_1.index t = ![0, 0] ∧ win0_2.index t = ![t.val / 2, 0, 0]
    ∧ win0_3.index t = ![0, 0] ∧ win0_4.index t = ![t.val, 0] ∧ win0_5.index t = ![0, t.val] :=
  (by decide +kernel : ∀ t : Fin grid0.N, _)

/-- Result array 4 after the run is the reference's result. -/
theorem arr4 (c : Dev nD) : (dats m 0 c).arrAt 4 cfg0.N
    = Cert.Reference2Ideal.Read.val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_cst, Cert.Reference2Ideal.Read.val_main_v6, Cert.Reference2Ideal.Read.val_main_v7, Cert.Reference2Ideal.Read.val_main_cst_0, Cert.Reference2Ideal.Read.val_main_v8, Cert.Reference2Ideal.Read.val_main_v9, Cert.Reference2Ideal.Read.val_main_cst_1, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_cst_2, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31]
  blk_point [iblk, V, idx t]

/-- Result array 5 after the run is the reference's result. -/
theorem arr5 (c : Dev nD) : (dats m 0 c).arrAt 5 cfg0.N
    = Cert.Reference2Ideal.Read.val_main_v31 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_cst, Cert.Reference2Ideal.Read.val_main_v6, Cert.Reference2Ideal.Read.val_main_v7, Cert.Reference2Ideal.Read.val_main_cst_0, Cert.Reference2Ideal.Read.val_main_v8, Cert.Reference2Ideal.Read.val_main_v9, Cert.Reference2Ideal.Read.val_main_cst_1, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_cst_2, Cert.Reference2Ideal.Read.val_main_v19, Cert.Reference2Ideal.Read.val_main_v20, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31]
  blk_point [iblk, V, idx t]

end Cert.Kernel2Ideal.Final

end
-- ==== Proof.Final3.lean ====
/- The query, key and value projection: the five arrays after the run are the reference's. -/
module

public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Final

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Result array 4 after the run is the reference's result. -/
theorem arr4 (c : Dev nD) : (dats m 0 c).arrAt 4 cfg0.N
    = Cert.Reference3Ideal.Read.val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, k0_pay7, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_cst, Cert.Reference3Ideal.Read.val_main_v6, Cert.Reference3Ideal.Read.val_main_v7, Cert.Reference3Ideal.Read.val_main_cst_0, Cert.Reference3Ideal.Read.val_main_v8, Cert.Reference3Ideal.Read.val_main_v9, Cert.Reference3Ideal.Read.val_main_cst_1, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_cst_2, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  blk_point [iblk, V, idx t]

/-- Result array 5 after the run is the reference's result. -/
theorem arr5 (c : Dev nD) : (dats m 0 c).arrAt 5 cfg0.N
    = Cert.Reference3Ideal.Read.val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, k0_pay7, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_cst, Cert.Reference3Ideal.Read.val_main_v6, Cert.Reference3Ideal.Read.val_main_v7, Cert.Reference3Ideal.Read.val_main_cst_0, Cert.Reference3Ideal.Read.val_main_v8, Cert.Reference3Ideal.Read.val_main_v9, Cert.Reference3Ideal.Read.val_main_cst_1, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_cst_2, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  blk_point [iblk, V, idx t]

/-- Result array 6 after the run is the reference's result. -/
theorem arr6 (c : Dev nD) : (dats m 0 c).arrAt 6 cfg0.N
    = Cert.Reference3Ideal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, k0_pay7, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_cst, Cert.Reference3Ideal.Read.val_main_v6, Cert.Reference3Ideal.Read.val_main_v7, Cert.Reference3Ideal.Read.val_main_cst_0, Cert.Reference3Ideal.Read.val_main_v8, Cert.Reference3Ideal.Read.val_main_v9, Cert.Reference3Ideal.Read.val_main_cst_1, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_cst_2, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  blk_point [iblk, V, idx t]

/-- Result array 7 after the run is the reference's result. -/
theorem arr7 (c : Dev nD) : (dats m 0 c).arrAt 7 cfg0.N
    = Cert.Reference3Ideal.Read.val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, k0_pay7, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_cst, Cert.Reference3Ideal.Read.val_main_v6, Cert.Reference3Ideal.Read.val_main_v7, Cert.Reference3Ideal.Read.val_main_cst_0, Cert.Reference3Ideal.Read.val_main_v8, Cert.Reference3Ideal.Read.val_main_v9, Cert.Reference3Ideal.Read.val_main_cst_1, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_cst_2, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  blk_point [iblk, V, idx t]

/-- Result array 8 after the run is the reference's result. -/
theorem arr8 (c : Dev nD) : (dats m 0 c).arrAt 8 cfg0.N
    = Cert.Reference3Ideal.Read.val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, k0_pay7, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_v5, Cert.Reference3Ideal.Read.val_main_cst, Cert.Reference3Ideal.Read.val_main_v6, Cert.Reference3Ideal.Read.val_main_v7, Cert.Reference3Ideal.Read.val_main_cst_0, Cert.Reference3Ideal.Read.val_main_v8, Cert.Reference3Ideal.Read.val_main_v9, Cert.Reference3Ideal.Read.val_main_cst_1, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_cst_2, Cert.Reference3Ideal.Read.val_main_v19, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_v32, Cert.Reference3Ideal.Read.val_main_v33, Cert.Reference3Ideal.Read.val_main_v34]
  blk_point [iblk, V, idx t]

end Cert.Kernel3Ideal.Final

end
-- ==== Proof.Final4.lean ====
/- The output projection with its gated residual: the array after the run is the reference's. -/
module

public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![t.val, 0] ∧ win0_1.index t = ![0, 0] ∧ win0_2.index t = ![t.val, 0]
    ∧ win0_3.index t = ![t.val / 2, 0, 0] ∧ win0_4.index t = ![t.val, 0] :=
  (by decide +kernel : ∀ t : Fin grid0.N, _)

/-- Result array 4 after the run is the reference's result. -/
theorem arr (c : Dev nD) : (dats m 0 c).arrAt 4 cfg0.N
    = Cert.Reference4Ideal.Read.val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5, Cert.Reference4Ideal.Read.val_main_v6, Cert.Reference4Ideal.Read.val_main_v7, Cert.Reference4Ideal.Read.val_main_v8, Cert.Reference4Ideal.Read.val_main_v9, Cert.Reference4Ideal.Read.val_main_v10, Cert.Reference4Ideal.Read.val_main_v11]
  blk_point [iblk, V, idx t]

end Cert.Kernel4Ideal.Final

end
-- ==== Proof.Final5.lean ====
/- The input projection of the Fourier mixer: the array after the run is the reference's. -/
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Final

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![t.val, 0] ∧ win0_1.index t = ![0, 0] ∧ win0_2.index t = ![t.val / 2, 0, 0]
    ∧ win0_3.index t = ![0, 0] ∧ win0_4.index t = ![t.val, 0] :=
  (by decide +kernel : ∀ t : Fin grid0.N, _)

/-- Result array 4 after the run is the reference's result. -/
theorem arr (c : Dev nD) : (dats m 0 c).arrAt 4 cfg0.N
    = Cert.Reference5Ideal.Read.val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.Reference5Ideal.Read.val_main_v0, Cert.Reference5Ideal.Read.val_main_v1, Cert.Reference5Ideal.Read.val_main_v2, Cert.Reference5Ideal.Read.val_main_v3, Cert.Reference5Ideal.Read.val_main_v4, Cert.Reference5Ideal.Read.val_main_v5, Cert.Reference5Ideal.Read.val_main_cst, Cert.Reference5Ideal.Read.val_main_v6, Cert.Reference5Ideal.Read.val_main_v7, Cert.Reference5Ideal.Read.val_main_cst_0, Cert.Reference5Ideal.Read.val_main_v8, Cert.Reference5Ideal.Read.val_main_v9, Cert.Reference5Ideal.Read.val_main_cst_1, Cert.Reference5Ideal.Read.val_main_v10, Cert.Reference5Ideal.Read.val_main_v11, Cert.Reference5Ideal.Read.val_main_v12, Cert.Reference5Ideal.Read.val_main_v13, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_cst_2, Cert.Reference5Ideal.Read.val_main_v19, Cert.Reference5Ideal.Read.val_main_v20, Cert.Reference5Ideal.Read.val_main_v21, Cert.Reference5Ideal.Read.val_main_v22, Cert.Reference5Ideal.Read.val_main_v23, Cert.Reference5Ideal.Read.val_main_v24, Cert.Reference5Ideal.Read.val_main_v25, Cert.Reference5Ideal.Read.val_main_v26, Cert.Reference5Ideal.Read.val_main_v27, Cert.Reference5Ideal.Read.val_main_v28, Cert.Reference5Ideal.Read.val_main_v29]
  blk_point [iblk, V, idx t]

end Cert.Kernel5Ideal.Final

end
-- ==== Proof.Final6.lean ====
/- The final norm: the array after the run is the reference's. -/
module

public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Final

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![t.val, 0] ∧ win0_1.index t = ![0, 0] ∧ win0_2.index t = ![t.val, 0] :=
  (by decide +kernel : ∀ t : Fin grid0.N, _)

/-- Result array 2 after the run is the reference's result. -/
theorem arr (c : Dev nD) : (dats m 0 c).arrAt 2 cfg0.N
    = Cert.Reference6Ideal.Read.val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, Cert.Reference6Ideal.Read.val_main_v0, Cert.Reference6Ideal.Read.val_main_v1, Cert.Reference6Ideal.Read.val_main_cst, Cert.Reference6Ideal.Read.val_main_v2, Cert.Reference6Ideal.Read.val_main_v3, Cert.Reference6Ideal.Read.val_main_cst_0, Cert.Reference6Ideal.Read.val_main_v4, Cert.Reference6Ideal.Read.val_main_v5, Cert.Reference6Ideal.Read.val_main_cst_1, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14]
  blk_point [iblk, V, idx t]

end Cert.Kernel6Ideal.Final

end
-- ==== Proof.Final8.lean ====
/- The modulation rows of every layer: the array after the run is the reference's. -/
module

public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Final

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- Result array 3 after the run is the reference's result. -/
theorem arr (c : Dev nD) : (dats m 0 c).arrAt 3 cfg0.N
    = Cert.Reference8Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, Cert.Reference8Ideal.Read.val_main_call0_v0, Cert.Reference8Ideal.Read.val_main_call0_v1, Cert.Reference8Ideal.Read.val_main_call0_cst, Cert.Reference8Ideal.Read.val_main_call0_v2, Cert.Reference8Ideal.Read.val_main_call0_v3, Cert.Reference8Ideal.Read.val_main_call0_cst_0, Cert.Reference8Ideal.Read.val_main_call0_v4, Cert.Reference8Ideal.Read.val_main_call0_v5, Cert.Reference8Ideal.Read.val_main_v0, Cert.Reference8Ideal.Read.val_main_v1, Cert.Reference8Ideal.Read.val_main_v2, Cert.Reference8Ideal.Read.val_main_v3, Cert.Reference8Ideal.Read.val_main_v4, Cert.Reference8Ideal.Read.val_main_v5]
  simp only [Ideal.logistic]
  refine congrArg₂ (· + ·) (Finset.sum_congr rfl fun e _ => (mul_comm _ _).trans ?_) ?_
  · blk_point [iblk, V, idx t]
  · blk_point [iblk, V, idx t]

end Cert.Kernel8Ideal.Final

end
-- ==== Proof.Pairs.lean ====
/- The calls whose value is the reference's operation by operation: both runs, and the equal results. -/
module

public import proofs.«01_k».proof.Defs
public import proofs.«01_k».proof.Proof.Final2
public import proofs.«01_k».proof.Proof.Gen.Reference2Ideal.Run
public import proofs.«01_k».proof.Proof.Gen.Reference2Ideal.Read
public import proofs.«01_k».proof.Proof.Final3
public import proofs.«01_k».proof.Proof.Gen.Reference3Ideal.Run
public import proofs.«01_k».proof.Proof.Gen.Reference3Ideal.Read
public import proofs.«01_k».proof.Proof.Final4
public import proofs.«01_k».proof.Proof.Gen.Reference4Ideal.Run
public import proofs.«01_k».proof.Proof.Gen.Reference4Ideal.Read
public import proofs.«01_k».proof.Proof.Final5
public import proofs.«01_k».proof.Proof.Gen.Reference5Ideal.Run
public import proofs.«01_k».proof.Proof.Gen.Reference5Ideal.Read
public import proofs.«01_k».proof.Proof.Final6
public import proofs.«01_k».proof.Proof.Gen.Reference6Ideal.Run
public import proofs.«01_k».proof.Proof.Gen.Reference6Ideal.Read
public import proofs.«01_k».proof.Proof.Final8
public import proofs.«01_k».proof.Proof.Gen.Reference8Ideal.Run
public import proofs.«01_k».proof.Proof.Gen.Reference8Ideal.Read
public import Idealize.ShloMosaic.Lib.Claim

@[expose] public section

set_option maxRecDepth 16384

noncomputable section

namespace Cert.Pairs

open Idealize.ShloMosaic Idealize.SL.Sem

theorem alg2 : Cert.algebraic_Kernel2Ideal_Reference2Ideal := by
  pair_intro
  · run_from Cert.Kernel2Ideal.Value.run_blocks m g
  · run_from Cert.Reference2Ideal.Value.run m' g'
    · exact (Cert.Reference2Ideal.Read.val_main_v29_eq _ _ _ _).trans (Cert.Kernel2Ideal.Final.arr4 m c).symm
    · exact (Cert.Reference2Ideal.Read.val_main_v31_eq _ _ _).trans (Cert.Kernel2Ideal.Final.arr5 m c).symm

theorem alg3 : Cert.algebraic_Kernel3Ideal_Reference3Ideal := by
  pair_intro
  · run_from Cert.Kernel3Ideal.Value.run_blocks m g
  · run_from Cert.Reference3Ideal.Value.run m' g'
    · exact (Cert.Reference3Ideal.Read.val_main_v32_eq _ _ _ _).trans (Cert.Kernel3Ideal.Final.arr4 m c).symm
    · exact (Cert.Reference3Ideal.Read.val_main_v33_eq _ _ _ _).trans (Cert.Kernel3Ideal.Final.arr5 m c).symm
    · exact (Cert.Reference3Ideal.Read.val_main_v34_eq _ _ _ _).trans (Cert.Kernel3Ideal.Final.arr6 m c).symm
    · exact (Cert.Reference3Ideal.Read.val_main_v30_eq _ _ _ _).trans (Cert.Kernel3Ideal.Final.arr7 m c).symm
    · exact (Cert.Reference3Ideal.Read.val_main_v31_eq _ _ _ _).trans (Cert.Kernel3Ideal.Final.arr8 m c).symm

theorem alg4 : Cert.algebraic_Kernel4Ideal_Reference4Ideal := by
  pair_intro
  · run_from Cert.Kernel4Ideal.Value.run_blocks m g
  · run_from Cert.Reference4Ideal.Value.run m' g'
    · exact (Cert.Reference4Ideal.Read.val_main_v11_eq _ _ _ _).trans (Cert.Kernel4Ideal.Final.arr m c).symm

theorem alg5 : Cert.algebraic_Kernel5Ideal_Reference5Ideal := by
  pair_intro
  · run_from Cert.Kernel5Ideal.Value.run_blocks m g
  · run_from Cert.Reference5Ideal.Value.run m' g'
    · exact (Cert.Reference5Ideal.Read.val_main_v29_eq _ _ _ _).trans (Cert.Kernel5Ideal.Final.arr m c).symm

theorem alg6 : Cert.algebraic_Kernel6Ideal_Reference6Ideal := by
  pair_intro
  · run_from Cert.Kernel6Ideal.Value.run_blocks m g
  · run_from Cert.Reference6Ideal.Value.run m' g'
    · exact (Cert.Reference6Ideal.Read.val_main_v14_eq _ _).trans (Cert.Kernel6Ideal.Final.arr m c).symm

theorem alg8 : Cert.algebraic_Kernel8Ideal_Reference8Ideal := by
  pair_intro
  · run_from Cert.Kernel8Ideal.Value.run_blocks m g
  · run_from Cert.Reference8Ideal.Value.run m' g'
    · exact (Cert.Reference8Ideal.Read.val_main_v5_eq _ _ _).trans (Cert.Kernel8Ideal.Final.arr m c).symm

end Cert.Pairs

end
-- ==== Proof.Softmax.lean ====
/- A softmax over two families of scores, as the kernel takes it (the greater of two maxima, one reciprocal of the sum)
   and as the reference takes it (one maximum and one sum over the joined family, a division), on the extended reals. -/
module

public import Idealize.ShloMosaic.Lib.Pointwise

@[expose] public section

noncomputable section

namespace Cert.Softmax

open Idealize.ShloMosaic

/-- An extended real that is a real number. -/
def Real' (x : EReal) : Prop := ∃ r : ℝ, x = (r : EReal)

theorem Real'.coe (r : ℝ) : Real' (r : EReal) := ⟨r, rfl⟩

theorem Real'.zero : Real' 0 := ⟨0, rfl⟩

theorem Real'.add {x y : EReal} : Real' x → Real' y → Real' (x + y) := by
  rintro ⟨a, rfl⟩ ⟨b, rfl⟩; exact ⟨a + b, (EReal.coe_add a b).symm⟩

theorem Real'.mul {x y : EReal} : Real' x → Real' y → Real' (x * y) := by
  rintro ⟨a, rfl⟩ ⟨b, rfl⟩; exact ⟨a * b, (EReal.coe_mul a b).symm⟩

theorem Real'.sum {ι : Type} (s : Finset ι) (f : ι → EReal) (h : ∀ i, Real' (f i)) : Real' (∑ i ∈ s, f i) := by
  classical
  induction s using Finset.induction_on with
  | empty => simpa using Real'.zero
  | insert a s ha ih => rw [Finset.sum_insert ha]; exact (h a).add ih

theorem Real'.of_ne {x : EReal} (hb : x ≠ ⊥) (ht : x ≠ ⊤) : Real' x := ⟨x.toReal, (EReal.coe_toReal ht hb).symm⟩

theorem Real'.ne_top {x : EReal} : Real' x → x ≠ ⊤ := by rintro ⟨a, rfl⟩; exact EReal.coe_ne_top a
theorem Real'.ne_bot {x : EReal} : Real' x → x ≠ ⊥ := by rintro ⟨a, rfl⟩; exact EReal.coe_ne_bot a

/-- A number whose absolute value is below infinity is real. -/
theorem Real'.of_abs_lt {x : EReal} (h : max x (-x) < ⊤) : Real' x := by
  refine Real'.of_ne (fun hb => ?_) (fun ht => ?_)
  · subst hb; simp at h
  · subst ht; simp at h

/-- The maximum of a family. -/
def fmax {n : ℕ} (s : Fin n → EReal) : EReal := Finset.univ.fold max ⊥ s

theorem fmax_le_iff {n : ℕ} (s : Fin n → EReal) (c : EReal) : fmax s ≤ c ↔ ∀ i, s i ≤ c := by
  unfold fmax; rw [Finset.fold_max_le]; simp

theorem le_fmax {n : ℕ} (s : Fin n → EReal) (i : Fin n) : s i ≤ fmax s := (fmax_le_iff s _).1 le_rfl i

theorem fmax_lt_top {n : ℕ} (s : Fin n → EReal) (h : ∀ i, Real' (s i)) : fmax s < ⊤ := by
  unfold fmax; rw [Finset.fold_max_lt]
  exact ⟨bot_lt_top, fun i _ => lt_top_iff_ne_top.2 (h i).ne_top⟩

theorem fmax_real {n : ℕ} (s : Fin n → EReal) (h : ∀ i, Real' (s i)) (i : Fin n) : Real' (fmax s) :=
  Real'.of_ne (ne_of_gt (lt_of_lt_of_le (bot_lt_iff_ne_bot.2 (h i).ne_bot) (le_fmax s i))) (fmax_lt_top s h).ne

/-- Two families one after the other. -/
def join {a b n : ℕ} (hn : n = a + b) (s : Fin a → EReal) (c : Fin b → EReal) (j : Fin n) : EReal :=
  if h : j.val < a then s ⟨j.val, h⟩ else c ⟨j.val - a, by omega⟩

theorem fmax_join {a b n : ℕ} (hn : n = a + b) (s : Fin a → EReal) (c : Fin b → EReal) :
    fmax (join hn s c) = max (fmax s) (fmax c) := by
  apply le_antisymm
  · rw [fmax_le_iff]; intro j; unfold join; split
    · exact (le_fmax s _).trans (le_max_left _ _)
    · exact (le_fmax c _).trans (le_max_right _ _)
  · refine max_le ((fmax_le_iff s _).2 fun i => ?_) ((fmax_le_iff c _).2 fun i => ?_)
    · have := le_fmax (join hn s c) ⟨i.val, by omega⟩
      simpa [join] using this
    · have := le_fmax (join hn s c) ⟨a + i.val, by omega⟩
      simpa [join] using this

theorem sum_join {a b n : ℕ} (hn : n = a + b) (s : Fin a → EReal) (c : Fin b → EReal) (f : EReal → EReal) :
    ∑ j, f (join hn s c j) = ∑ i, f (s i) + ∑ i, f (c i) := by
  subst hn
  rw [Fin.sum_univ_add]
  congr 1 <;> refine Finset.sum_congr rfl fun i _ => ?_
  · simp [join]
  · simp [join]

theorem exp_nonneg (x : EReal) : 0 ≤ Ideal.exp x := by
  induction x with
  | bot => exact le_rfl
  | top => exact le_top
  | coe r => exact EReal.coe_nonneg.2 (Real.exp_pos r).le

theorem exp_pos_of_real {x : EReal} (h : Real' x) : 0 < Ideal.exp x := by
  obtain ⟨r, rfl⟩ := h
  exact EReal.coe_pos.2 (Real.exp_pos r)

theorem Real'.sub {x y : EReal} : Real' x → Real' y → Real' (x - y) := by
  rintro ⟨a, rfl⟩ ⟨b, rfl⟩; exact ⟨a - b, (EReal.coe_sub a b).symm⟩

theorem sum_exp_pos {n : ℕ} (s : Fin n → EReal) (m : EReal) (i : Fin n) (hi : Real' (s i)) (hm : Real' m) :
    0 < ∑ j, Ideal.exp (s j - m) :=
  lt_of_lt_of_le (exp_pos_of_real (hi.sub hm))
    (Finset.single_le_sum (f := fun j => Ideal.exp (s j - m)) (fun j _ => exp_nonneg _) (Finset.mem_univ i))

/-- Times the reciprocal of a sum that is not zero is divided by it. -/
theorem mul_recip {e d : EReal} (hd : d ≠ 0) : e * Ideal.div 1 d = Ideal.div e d := by
  unfold Ideal.div; rw [if_neg hd, if_neg hd, one_mul]

/-- What one query takes of two families of values, the weights the softmax of two families of scores: the greater of
    the two maxima, the two sums, one reciprocal. -/
def attend {a b : ℕ} (s : Fin a → EReal) (c : Fin b → EReal) (v : Fin a → EReal) (w : Fin b → EReal) : EReal :=
  ∑ j, Ideal.exp (s j - max (fmax s) (fmax c))
      * Ideal.div 1 (∑ j, Ideal.exp (s j - max (fmax s) (fmax c)) + ∑ j, Ideal.exp (c j - max (fmax s) (fmax c))) * v j
  + ∑ j, Ideal.exp (c j - max (fmax s) (fmax c))
      * Ideal.div 1 (∑ j, Ideal.exp (s j - max (fmax s) (fmax c)) + ∑ j, Ideal.exp (c j - max (fmax s) (fmax c))) * w j

/-- The same with one maximum and one sum over the joined family, and a division, where the scores are real. -/
theorem attend_eq {a b n : ℕ} (hn : n = a + b) (s : Fin a → EReal) (c : Fin b → EReal) (v : Fin a → EReal)
    (w : Fin b → EReal) (i : Fin a) (hs : ∀ j, Real' (s j)) (hc : ∀ j, Real' (c j)) (k : Fin b) :
    attend s c v w
      = ∑ j, Ideal.div (Ideal.exp (s j - fmax (join hn s c))) (∑ k, Ideal.exp (join hn s c k - fmax (join hn s c))) * v j
      + ∑ j, Ideal.div (Ideal.exp (c j - fmax (join hn s c))) (∑ k, Ideal.exp (join hn s c k - fmax (join hn s c))) * w j := by
  rw [fmax_join, sum_join hn s c (fun x => Ideal.exp (x - max (fmax s) (fmax c)))]
  have hm : Real' (max (fmax s) (fmax c)) := by
    rcases max_choice (fmax s) (fmax c) with h | h <;> rw [h]
    · exact fmax_real s hs i
    · exact fmax_real c hc k
  have hd : (∑ j, Ideal.exp (s j - max (fmax s) (fmax c)) + ∑ j, Ideal.exp (c j - max (fmax s) (fmax c))) ≠ 0 :=
    ne_of_gt (lt_of_lt_of_le (sum_exp_pos s _ i (hs i) hm)
      (le_add_of_nonneg_right (Finset.sum_nonneg fun j _ => exp_nonneg _)))
  unfold attend
  simp only [mul_recip hd]

/-- The same of one family. -/
def attend1 {a : ℕ} (s v : Fin a → EReal) : EReal :=
  ∑ j, Ideal.exp (s j - fmax s) * Ideal.div 1 (∑ j, Ideal.exp (s j - fmax s)) * v j

theorem attend1_eq {a : ℕ} (s v : Fin a → EReal) (i : Fin a) (hs : ∀ j, Real' (s j)) :
    attend1 s v = ∑ j, Ideal.div (Ideal.exp (s j - fmax s)) (∑ k, Ideal.exp (s k - fmax s)) * v j := by
  have hd : (∑ j, Ideal.exp (s j - fmax s)) ≠ 0 := ne_of_gt (sum_exp_pos s _ i (hs i) (fmax_real s hs i))
  unfold attend1
  simp only [mul_recip hd]

/-- A sum over two heads' lanes, kept on the first head only. -/
theorem sum_lo (f : Fin 128 → EReal) :
    ∑ e : Fin 128, (if e.val < 64 then f e else 0) = ∑ e : Fin 64, f ⟨e.val, by omega⟩ := by
  refine (Fin.sum_univ_add (a := 64) (b := 64) _).trans ?_
  rw [Finset.sum_eq_zero (s := Finset.univ) (f := fun i : Fin 64 =>
    (if (Fin.natAdd 64 i : Fin 128).val < 64 then f (Fin.natAdd 64 i) else 0)), add_zero]
  · refine Finset.sum_congr rfl fun e _ => ?_
    rw [if_pos (show (Fin.castAdd 64 e).val < 64 from e.isLt)]
    rfl
  · intro e _
    rw [if_neg (show ¬ (Fin.natAdd 64 e).val < 64 by simp)]

/-- … and on the second head only. -/
theorem sum_hi (f : Fin 128 → EReal) :
    ∑ e : Fin 128, (if 64 ≤ e.val then f e else 0) = ∑ e : Fin 64, f ⟨64 + e.val, by omega⟩ := by
  refine (Fin.sum_univ_add (a := 64) (b := 64) _).trans ?_
  rw [Finset.sum_eq_zero (s := Finset.univ) (f := fun i : Fin 64 =>
    (if 64 ≤ (Fin.castAdd 64 i : Fin 128).val then f (Fin.castAdd 64 i) else 0)), zero_add]
  · refine Finset.sum_congr rfl fun e _ => ?_
    rw [if_pos (show 64 ≤ (Fin.natAdd 64 e).val by simp)]
    rfl
  · intro e _
    rw [if_neg (show ¬ 64 ≤ (Fin.castAdd 64 e).val by simp [e.isLt])]

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

/-- A binary32 word whose exponent is not all ones is a real number. -/
theorem ofBits_real (b : BitVec 32) (h : (b.extractLsb' 23 8).toNat ≠ 255) : Real' (Ideal.ofBits .f32 b) := by
  show Real' (Ideal.ieee 8 23 b)
  unfold Ideal.ieee
  dsimp only
  rw [if_neg (by simpa using h)]
  split
  · exact Real'.coe _
  · exact Real'.coe _

end Cert.Softmax

end
-- ==== Proof.AttnSpec.lean ====
/- The attention of the latent tokens, element by element: a query attends to eight rows of the grid around its own row,
   sixteen columns of each, with a learned bias, and to all the keys of its context, in one softmax. -/
module

public import proofs.«01_k».proof.Proof.Softmax

@[expose] public section

noncomputable section

namespace Cert.Softmax

open Idealize.ShloMosaic

/-- A choice by a bit that a proposition sets. -/
theorem select_ite {α : Type} (P : Prop) [Decidable P] (x y : α) :
    Scalar.select (if P then 1#1 else 0#1) x y = if P then x else y := by
  by_cases h : P <;> simp [Scalar.select, h]

/-- A maximum taken from negative infinity. -/
theorem from_bot (x : EReal) : FloatOps.maximumf (F := Ideal) (φ := .f32) (⊥ : EReal) x = x := max_eq_right bot_le

/-- Key column `j` lies in the window of query column `i`. -/
def InWin (i j : ℕ) : Prop := min 48 (i - 8) ≤ j ∧ j < min 48 (i - 8) + 16

instance (i j : ℕ) : Decidable (InWin i j) := inferInstanceAs (Decidable (_ ∧ _))

/-- The first row of the window of row `r`. -/
def winRow (r : ℕ) : ℕ := min 8 (r - 4)

/-- The bias's column for query column `i` and key column `j`: their distance, no further than fifteen. -/
def biasCol (i j : ℕ) : ℕ := min 30 (j + 15 - i)

theorem biasCol_lt (i j : ℕ) : biasCol i j < 31 := by unfold biasCol; omega

/-- The score of key `j` of the window, for the query at `R` and the head of lane `d`. -/
def scoreLoc (q k : Fin 8192 → Fin 1024 → EReal) (rpb : Fin 16 → Fin 15 → Fin 31 → EReal)
    (R : Fin 8192) (d : Fin 1024) (j : Fin 512) : EReal :=
  if InWin (R.val % 64) (j.val % 64) then
    (∑ e : Fin 64, q R ⟨d.val / 64 * 64 + e.val, by omega⟩
        * k ⟨R.val / 1024 * 1024 + winRow (R.val / 64 % 16) * 64 + j.val, by unfold winRow; omega⟩
            ⟨d.val / 64 * 64 + e.val, by omega⟩) * Ideal.ofBits .f32 0x3E000000#32
      + rpb ⟨d.val / 64, by omega⟩
          ⟨winRow (R.val / 64 % 16) + j.val / 64 + 7 - R.val / 64 % 16, by unfold winRow; omega⟩
          ⟨biasCol (R.val % 64) (j.val % 64), biasCol_lt _ _⟩
  else Ideal.ofBits .f32 0xF149F2CA#32

/-- The score of key `u` of the context. -/
def scoreCtx (q : Fin 8192 → Fin 1024 → EReal) (ck : Fin 2048 → Fin 1024 → EReal)
    (R : Fin 8192) (d : Fin 1024) (u : Fin 256) : EReal :=
  (∑ e : Fin 64, q R ⟨d.val / 64 * 64 + e.val, by omega⟩
      * ck ⟨R.val / 1024 * 256 + u.val, by omega⟩ ⟨d.val / 64 * 64 + e.val, by omega⟩) * Ideal.ofBits .f32 0x3E000000#32

/-- The value of key `j` of the window, at lane `d`. -/
def valLoc (v : Fin 8192 → Fin 1024 → EReal) (R : Fin 8192) (d : Fin 1024) (j : Fin 512) : EReal :=
  v ⟨R.val / 1024 * 1024 + winRow (R.val / 64 % 16) * 64 + j.val, by unfold winRow; omega⟩ d

/-- The value of key `u` of the context, at lane `d`. -/
def valCtx (cv : Fin 2048 → Fin 1024 → EReal) (R : Fin 8192) (d : Fin 1024) (u : Fin 256) : EReal :=
  cv ⟨R.val / 1024 * 256 + u.val, by omega⟩ d

/-- The attention's result at token `R`, lane `d`. -/
def attn (q k v : Fin 8192 → Fin 1024 → EReal) (ck cv : Fin 2048 → Fin 1024 → EReal)
    (rpb : Fin 16 → Fin 15 → Fin 31 → EReal) (R : Fin 8192) (d : Fin 1024) : EReal :=
  attend (scoreLoc q k rpb R d) (scoreCtx q ck R d) (valLoc v R d) (valCtx cv R d)

/-- Finite queries, keys and biases make real scores. -/
theorem scoreLoc_real (q k : Fin 8192 → Fin 1024 → EReal) (rpb : Fin 16 → Fin 15 → Fin 31 → EReal)
    (hq : ∀ a b, Real' (q a b)) (hk : ∀ a b, Real' (k a b)) (hr : ∀ a b c, Real' (rpb a b c))
    (R : Fin 8192) (d : Fin 1024) (j : Fin 512) : Real' (scoreLoc q k rpb R d j) := by
  unfold scoreLoc
  split
  · exact ((Real'.sum _ _ fun e => (hq _ _).mul (hk _ _)).mul (ofBits_real _ (by decide))).add (hr _ _ _)
  · exact ofBits_real _ (by decide)

theorem scoreCtx_real (q : Fin 8192 → Fin 1024 → EReal) (ck : Fin 2048 → Fin 1024 → EReal)
    (hq : ∀ a b, Real' (q a b)) (hk : ∀ a b, Real' (ck a b))
    (R : Fin 8192) (d : Fin 1024) (j : Fin 256) : Real' (scoreCtx q ck R d j) :=
  (Real'.sum _ _ fun e => (hq _ _).mul (hk _ _)).mul (ofBits_real _ (by decide))

/-- The score of key `j` of the sequence of token `R`, for the head of lane `d`. -/
def scoreSeq (q k : Fin 4096 → Fin 1024 → EReal) (R : Fin 4096) (d : Fin 1024) (j : Fin 256) : EReal :=
  (∑ e : Fin 64, q R ⟨d.val / 64 * 64 + e.val, by omega⟩
      * k ⟨R.val / 256 * 256 + j.val, by omega⟩ ⟨d.val / 64 * 64 + e.val, by omega⟩) * Ideal.ofBits .f32 0x3E000000#32

/-- The attention inside one sequence of 256 tokens, at token `R`, lane `d`. -/
def attnSeq (q k v : Fin 4096 → Fin 1024 → EReal) (R : Fin 4096) (d : Fin 1024) : EReal :=
  attend1 (scoreSeq q k R d) fun j => v ⟨R.val / 256 * 256 + j.val, by omega⟩ d

theorem scoreSeq_real (q k : Fin 4096 → Fin 1024 → EReal) (hq : ∀ a b, Real' (q a b)) (hk : ∀ a b, Real' (k a b))
    (R : Fin 4096) (d : Fin 1024) (j : Fin 256) : Real' (scoreSeq q k R d j) :=
  (Real'.sum _ _ fun e => (hq _ _).mul (hk _ _)).mul (ofBits_real _ (by decide))

end Cert.Softmax

end
-- ==== Proof.AttnBlock.lean ====
/- One pair of heads of the attention's body: what it computes of the loaded pieces, at one index. -/
module

public import proofs.«01_k».proof.Proof.Gen.KernelIdeal.Value
public import Idealize.ShloMosaic.Lib.Pipeline.ValueKit
public import Idealize.ShloMosaic.Lib.Pointwise
public import proofs.«01_k».proof.Proof.AttnSpec

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

theorem pay2_at : ∀ e : Fin 128, k0_pay2 (ix2 (0 : Fin 1) e) = if e.val < 64 then 1#1 else 0#1 := by decide +kernel

theorem pay3_at : ∀ e : Fin 128, k0_pay3 (ix2 (0 : Fin 1) e) = if 64 ≤ e.val then 1#1 else 0#1 := by decide +kernel

/-- The first of the window's sixteen columns, as the body computes it. -/
theorem first_col : ∀ i : Fin 64, (IntOp.minsi (48#32) (IntOp.maxsi (0#32) (IntOp.subi (BitVec.ofNat 32 i.val) 8#32)))
    = BitVec.ofNat 32 (min 48 (i.val - 8)) := by
  decide +kernel

/-- A key's column, as the body computes it. -/
theorem key_col : ∀ k : Fin 512,
    Scalar.select
      (IntOp.andi
        (IntOp.xori
          (IntOp.cmpi .slt (IntOp.remsi .vector (BitVec.ofNat 32 k.val)
            (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector (BitVec.ofNat 32 k.val)
          (Scalar.select (Scalar.cmpi .eq 64#32 0#32) 1#32 64#32)) 0#32))
      (IntOp.addi (IntOp.remsi .vector (BitVec.ofNat 32 k.val)
        (Scalar.select (Scalar.cmpi .eq 64#32 0#32) 1#32 64#32))
        (Scalar.select (Scalar.cmpi .eq 64#32 0#32) 1#32 64#32))
      (IntOp.remsi .vector (BitVec.ofNat 32 k.val)
        (Scalar.select (Scalar.cmpi .eq 64#32 0#32) 1#32 64#32)) = BitVec.ofNat 32 (k.val % 64) := by
  decide +kernel

/-- Whether a column lies among the sixteen from a first one, as the body compares it. -/
theorem in_cols : ∀ (a : Fin 64) (b : Fin 49),
    IntOp.andi (IntOp.cmpi .sge (BitVec.ofNat 32 a.val) (BitVec.ofNat 32 b.val))
        (IntOp.cmpi .slt (BitVec.ofNat 32 a.val) (IntOp.addi (BitVec.ofNat 32 b.val) 16#32))
      = if b.val ≤ a.val ∧ a.val < b.val + 16 then 1#1 else 0#1 := by
  decide +kernel

theorem pay1_at (i : Fin 64) (k : Fin 512) : k0_pay1 (ix2 i k) = if InWin i.val (k.val % 64) then 1#1 else 0#1 := by
  pointwise [k0_pay1]
  rw [key_col, first_col]
  exact in_cols ⟨k.val % 64, by omega⟩ ⟨min 48 (i.val - 8), by omega⟩

/-- A query row's score of a key row over one head's lanes. -/
def dotLo {n : ℕ} (q : Fin 64 → Fin 128 → EReal) (k : Fin n → Fin 128 → EReal) (i : Fin 64) (j : Fin n) : EReal :=
  (∑ e : Fin 64, q i ⟨e.val, by omega⟩ * k j ⟨e.val, by omega⟩) * Ideal.ofBits .f32 0x3E000000#32

def dotHi {n : ℕ} (q : Fin 64 → Fin 128 → EReal) (k : Fin n → Fin 128 → EReal) (i : Fin 64) (j : Fin n) : EReal :=
  (∑ e : Fin 64, q i ⟨64 + e.val, by omega⟩ * k j ⟨64 + e.val, by omega⟩) * Ideal.ofBits .f32 0x3E000000#32

theorem lo_at (q : Vec Ideal S64x128 .bf16) (k : Vec Ideal S512x128 .bf16) (b : Vec Ideal S1x1x64x512 .f32)
    (i : Fin 64) (j : Fin 512) :
    k0_pay5 (F := Ideal) k0_pay1 k0_pay2 q k b (ix2 i j)
      = if InWin i.val (j.val % 64) then
          dotLo (fun i e => q (ix2 i e)) (fun j e => k (ix2 j e)) i j + b (ix4 0 0 i j)
        else Ideal.ofBits .f32 0xF149F2CA#32 := by
  pointwise [k0_pay5, k0_pay4]
  rw [pay1_at, select_ite]
  simp only [pay2_at, select_ite, sum_lo, dotLo]

theorem hi_at (q : Vec Ideal S64x128 .bf16) (k : Vec Ideal S512x128 .bf16) (b : Vec Ideal S1x1x64x512 .f32)
    (i : Fin 64) (j : Fin 512) :
    k0_pay8 (F := Ideal) k0_pay1 k0_pay3 q k b (ix2 i j)
      = if InWin i.val (j.val % 64) then
          dotHi (fun i e => q (ix2 i e)) (fun j e => k (ix2 j e)) i j + b (ix4 0 0 i j)
        else Ideal.ofBits .f32 0xF149F2CA#32 := by
  pointwise [k0_pay8, k0_pay7]
  rw [pay1_at, select_ite]
  simp only [pay3_at, select_ite, sum_hi, dotHi]

theorem clo_at (q : Vec Ideal S64x128 .bf16) (k : Vec Ideal S256x128 .bf16) (i : Fin 64) (j : Fin 256) :
    k0_pay6 (F := Ideal) k0_pay2 q k (ix2 i j) = dotLo (fun i e => q (ix2 i e)) (fun j e => k (ix2 j e)) i j := by
  pointwise [k0_pay6, k0_pay4]
  simp only [pay2_at, select_ite, sum_lo, dotLo]

theorem chi_at (q : Vec Ideal S64x128 .bf16) (k : Vec Ideal S256x128 .bf16) (i : Fin 64) (j : Fin 256) :
    k0_pay9 (F := Ideal) k0_pay3 q k (ix2 i j) = dotHi (fun i e => q (ix2 i e)) (fun j e => k (ix2 j e)) i j := by
  pointwise [k0_pay9, k0_pay7]
  simp only [pay3_at, select_ite, sum_hi, dotHi]

/-- The weights of the window's keys and of the context's keys. -/
def wts (s : FVec Ideal S64x512 .f32) (c : FVec Ideal S64x256 .f32) : FVec Ideal S64x512 .bf16 :=
  k0_pay57 (F := Ideal) c (k0_pay53 s c) (k0_pay54 s c)

def wtsC (s : FVec Ideal S64x512 .f32) (c : FVec Ideal S64x256 .f32) : FVec Ideal S64x256 .bf16 :=
  k0_pay58 (F := Ideal) c (k0_pay53 s c) (k0_pay54 s c)

/-- What the body stores for a pair of heads. -/
def pairOut (q : Vec Ideal S64x128 .bf16) (k : Vec Ideal S512x128 .bf16) (ck : Vec Ideal S256x128 .bf16)
    (bA bB : Vec Ideal S1x1x64x512 .f32) (v : Vec Ideal S512x128 .bf16) (cv : Vec Ideal S256x128 .bf16) :
    FVec Ideal S64x128 .bf16 :=
  k0_pay155 (F := Ideal) k0_pay2
    (wts (k0_pay5 k0_pay1 k0_pay2 q k bA) (k0_pay6 k0_pay2 q ck))
    (wtsC (k0_pay5 k0_pay1 k0_pay2 q k bA) (k0_pay6 k0_pay2 q ck))
    (wts (k0_pay8 k0_pay1 k0_pay3 q k bB) (k0_pay9 k0_pay3 q ck))
    (wtsC (k0_pay8 k0_pay1 k0_pay3 q k bB) (k0_pay9 k0_pay3 q ck)) v cv

theorem att_at (s : FVec Ideal S64x512 .f32) (c : FVec Ideal S64x256 .f32) (v : Vec Ideal S512x128 .bf16)
    (cv : Vec Ideal S256x128 .bf16) (i : Fin 64) (l : Fin 128) :
    (∑ j : Fin 512, wts s c (ix2 i j) * v (ix2 j l)) + (∑ j : Fin 256, wtsC s c (ix2 i j) * cv (ix2 j l))
      = attend (fun j : Fin 512 => s (ix2 i j)) (fun j : Fin 256 => c (ix2 i j)) (fun j => v (ix2 j l)) (fun j => cv (ix2 j l)) := by
  pointwise [wts, wtsC, k0_pay57, k0_pay58, k0_pay53, k0_pay54, k0_pay52, k0_pay55, k0_pay56]
  simp only [ofBits_neg_inf]
  rfl

theorem pair_at (q : Vec Ideal S64x128 .bf16) (k : Vec Ideal S512x128 .bf16) (ck : Vec Ideal S256x128 .bf16)
    (bA bB : Vec Ideal S1x1x64x512 .f32) (v : Vec Ideal S512x128 .bf16) (cv : Vec Ideal S256x128 .bf16)
    (i : Fin 64) (l : Fin 128) :
    pairOut q k ck bA bB v cv (ix2 i l)
      = if l.val < 64 then
          attend (fun j : Fin 512 => if InWin i.val (j.val % 64) then
              dotLo (fun i e => q (ix2 i e)) (fun j e => k (ix2 j e)) i j + bA (ix4 0 0 i j)
            else Ideal.ofBits .f32 0xF149F2CA#32)
            (fun j : Fin 256 => dotLo (fun i e => q (ix2 i e)) (fun j e => ck (ix2 j e)) i j)
            (fun j => v (ix2 j l)) (fun j => cv (ix2 j l))
        else
          attend (fun j : Fin 512 => if InWin i.val (j.val % 64) then
              dotHi (fun i e => q (ix2 i e)) (fun j e => k (ix2 j e)) i j + bB (ix4 0 0 i j)
            else Ideal.ofBits .f32 0xF149F2CA#32)
            (fun j : Fin 256 => dotHi (fun i e => q (ix2 i e)) (fun j e => ck (ix2 j e)) i j)
            (fun j => v (ix2 j l)) (fun j => cv (ix2 j l)) := by
  have hA := att_at (k0_pay5 k0_pay1 k0_pay2 q k bA) (k0_pay6 k0_pay2 q ck) v cv i l
  have hB := att_at (k0_pay8 k0_pay1 k0_pay3 q k bB) (k0_pay9 k0_pay3 q ck) v cv i l
  simp only [lo_at, clo_at] at hA
  simp only [hi_at, chi_at] at hB
  rw [← hA, ← hB]
  unfold pairOut
  generalize wts (k0_pay5 k0_pay1 k0_pay2 q k bA) (k0_pay6 k0_pay2 q ck) = w1
  generalize wtsC (k0_pay5 k0_pay1 k0_pay2 q k bA) (k0_pay6 k0_pay2 q ck) = w2
  generalize wts (k0_pay8 k0_pay1 k0_pay3 q k bB) (k0_pay9 k0_pay3 q ck) = w3
  generalize wtsC (k0_pay8 k0_pay1 k0_pay3 q k bB) (k0_pay9 k0_pay3 q ck) = w4
  pointwise [k0_pay155]
  rw [pay2_at, select_ite]

end Cert.KernelIdeal.Attn

end
-- ==== Proof.AttnTiles.lean ====
/- What one grid point of the attention leaves in its block: eight pairs of heads, each at its own lanes. -/
module

public import proofs.«01_k».proof.Proof.AttnBlock

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

/-- The lanes of pair `p` in the query's (and the result's) block. -/
abbrev rQ (p : Fin 8) : Rect S64x1024 := Rect.unit (s := S64x1024) ![0, 128 * p.val] ![64, 128]
  (by intro a; fin_cases a <;> simp [S64x1024] <;> omega)

/-- … in the window's rows from `r` on. -/
abbrev rK (r : ℕ) (hr : r ≤ 512) (p : Fin 8) : Rect S1024x1024 := Rect.unit (s := S1024x1024) ![r, 128 * p.val] ![512, 128]
  (by intro a; fin_cases a <;> simp [S1024x1024] <;> omega)

/-- … in the context's block. -/
abbrev rC (p : Fin 8) : Rect S256x1024 := Rect.unit (s := S256x1024) ![0, 128 * p.val] ![256, 128]
  (by intro a; fin_cases a <;> simp [S256x1024] <;> omega)

/-- One head's slab of the bias block. -/
abbrev rB (h : Fin 16) : Rect S1x16x64x512 := Rect.unit (s := S1x16x64x512) ![0, h.val, 0, 0] ![1, 1, 64, 512]
  (by intro a; fin_cases a <;> simp [S1x16x64x512] <;> omega)

/-- The first of the window's rows, as a row of the block. -/
theorem row_eq : ∀ i : grid0.Coords, k0_off1 i 0 = min 8 ((i 1).val - 4) * 64 := by decide +kernel

theorem row_le (i : grid0.Coords) : k0_off1 i 0 ≤ 512 := by rw [row_eq]; omega

/-- Pair `p`'s stored tile. -/
def tile (r : ℕ) (hr : r ≤ 512) (x0 : Vec Ideal S64x1024 .bf16) (x1 x2 : Vec Ideal S1024x1024 .bf16)
    (x3 x4 : Vec Ideal S256x1024 .bf16) (x5 : Vec Ideal S1x16x64x512 .f32) (p : Fin 8) : Vec Ideal S64x128 .bf16 :=
  pairOut (View.ld x0 (rQ p)) (View.ld x1 (rK r hr p)) (View.ld x3 (rC p))
    (View.ld x5 (rB ⟨2 * p.val, by omega⟩)) (View.ld x5 (rB ⟨2 * p.val + 1, by omega⟩))
    (View.ld x2 (rK r hr p)) (View.ld x4 (rC p))

theorem out_tiles (c : Dev nD) (i : grid0.Coords) (arg2 : Memref sig .tc .vmem S64x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x16x64x512 .f32) (harg7 : arg7.IsWhole) (arg8 : Memref sig .tc .vmem S64x1024 .bf16) (harg8 : arg8.IsWhole)
    (x0 : Vec Ideal S64x1024 .bf16) (x1 x2 : Vec Ideal S1024x1024 .bf16)
    (x3 x4 : Vec Ideal S256x1024 .bf16) (x5 : Vec Ideal S1x16x64x512 .f32) (y : S64x1024.Idx) :
    out0_A_6 c i arg2 harg2 arg3 harg3 arg4 harg4 arg5 harg5 arg6 harg6 arg7 harg7 arg8 harg8 x0 x1 x2 x3 x4 x5 y
      = View.canon (Val := Elt Ideal) (s := S64x1024) (e := .bf16) (List.ofFn fun p : Fin 8 =>
        (⟨rQ ⟨7 - p.val, by omega⟩, tile (k0_off1 i 0) (row_le i) x0 x1 x2 x3 x4 x5 ⟨7 - p.val, by omega⟩⟩
          : View.Piece (Elt Ideal) S64x1024 .bf16)) y := by
  frame_out
  rfl

/-- The block's result at query row `i`, lane `d`, of the blocks as they lie: the window's rows from `r` on. -/
def blk (r : ℕ) (hr : r ≤ 512) (x0 : Vec Ideal S64x1024 .bf16) (x1 x2 : Vec Ideal S1024x1024 .bf16)
    (x3 x4 : Vec Ideal S256x1024 .bf16) (x5 : Vec Ideal S1x16x64x512 .f32) (i : Fin 64) (d : Fin 1024) : EReal :=
  attend
    (fun j : Fin 512 => if InWin i.val (j.val % 64) then
        (∑ e : Fin 64, x0 (ix2 i ⟨d.val / 64 * 64 + e.val, by omega⟩)
          * x1 (ix2 ⟨r + j.val, by omega⟩ ⟨d.val / 64 * 64 + e.val, by omega⟩)) * Ideal.ofBits .f32 0x3E000000#32
        + x5 (ix4 (0 : Fin 1) ⟨d.val / 64, by omega⟩ i j)
      else Ideal.ofBits .f32 0xF149F2CA#32)
    (fun u : Fin 256 => (∑ e : Fin 64, x0 (ix2 i ⟨d.val / 64 * 64 + e.val, by omega⟩)
          * x3 (ix2 u ⟨d.val / 64 * 64 + e.val, by omega⟩)) * Ideal.ofBits .f32 0x3E000000#32)
    (fun j => x2 (ix2 ⟨r + j.val, by omega⟩ d)) (fun u => x4 (ix2 u d))

theorem ldQ (x : Vec Ideal S64x1024 .bf16) (p : Fin 8) (i : Fin 64) (l : Fin 128) (d : Fin 1024) (h : d.val = 128 * p.val + l.val) :
    View.ld x (rQ p) (ix2 i l) = x (ix2 i d) :=
  View.ld_unit_apply_of x _ _ _ _ _ fun a => by fin_cases a <;> simp [ix2, h]

theorem ldK (x : Vec Ideal S1024x1024 .bf16) (r : ℕ) (hr : r ≤ 512) (p : Fin 8) (i : Fin 512) (l : Fin 128) (d : Fin 1024)
    (h : d.val = 128 * p.val + l.val) : View.ld x (rK r hr p) (ix2 i l) = x (ix2 ⟨r + i.val, by omega⟩ d) :=
  View.ld_unit_apply_of x _ _ _ _ _ fun a => by fin_cases a <;> simp [ix2, h]

theorem ldC (x : Vec Ideal S256x1024 .bf16) (p : Fin 8) (i : Fin 256) (l : Fin 128) (d : Fin 1024) (h : d.val = 128 * p.val + l.val) :
    View.ld x (rC p) (ix2 i l) = x (ix2 i d) :=
  View.ld_unit_apply_of x _ _ _ _ _ fun a => by fin_cases a <;> simp [ix2, h]

theorem ldB (x : Vec Ideal S1x16x64x512 .f32) (h h' : Fin 16) (hh : h' = h) (i : Fin 64) (j : Fin 512) :
    View.ld x (rB h) (ix4 (0 : Fin 1) (0 : Fin 1) i j) = x (ix4 (0 : Fin 1) h' i j) :=
  View.ld_unit_apply_of x _ _ _ _ _ fun a => by fin_cases a <;> simp [ix4, hh]

/-- A pair's tile is the block's result at its lanes. -/
theorem tile_at (r : ℕ) (hr : r ≤ 512) (x0 : Vec Ideal S64x1024 .bf16) (x1 x2 : Vec Ideal S1024x1024 .bf16)
    (x3 x4 : Vec Ideal S256x1024 .bf16) (x5 : Vec Ideal S1x16x64x512 .f32) (p : Fin 8) (i : Fin 64) (l : Fin 128)
    (d : Fin 1024) (h : d.val = 128 * p.val + l.val) :
    tile r hr x0 x1 x2 x3 x4 x5 p (ix2 i l) = blk r hr x0 x1 x2 x3 x4 x5 i d := by
  unfold tile blk
  rw [pair_at]
  split <;> rename_i hl <;> congr 1 <;> funext j
  · refine if_congr Iff.rfl (congrArg₂ _ (congrArg (· * _) (Finset.sum_congr rfl fun e _ => ?_)) ?_) rfl
    · exact congrArg₂ (· * ·) (ldQ x0 p i _ _ (by simp; omega)) (ldK x1 r hr p j _ _ (by simp; omega))
    · exact ldB x5 _ _ (Fin.ext (by simp; omega)) i j
  · refine congrArg (· * _) (Finset.sum_congr rfl fun e _ => ?_)
    exact congrArg₂ (· * ·) (ldQ x0 p i _ _ (by simp; omega)) (ldC x3 p j _ _ (by simp; omega))
  · exact ldK x2 r hr p j l d h
  · exact ldC x4 p j l d h
  · refine if_congr Iff.rfl (congrArg₂ _ (congrArg (· * _) (Finset.sum_congr rfl fun e _ => ?_)) ?_) rfl
    · exact congrArg₂ (· * ·) (ldQ x0 p i _ _ (by simp; omega)) (ldK x1 r hr p j _ _ (by simp; omega))
    · exact ldB x5 _ _ (Fin.ext (by simp; omega)) i j
  · refine congrArg (· * _) (Finset.sum_congr rfl fun e _ => ?_)
    exact congrArg₂ (· * ·) (ldQ x0 p i _ _ (by simp; omega)) (ldC x3 p j _ _ (by simp; omega))
  · exact ldK x2 r hr p j l d h
  · exact ldC x4 p j l d h

/-- A grid point's block, at one index. -/
theorem out_at (c : Dev nD) (i : grid0.Coords) (arg2 : Memref sig .tc .vmem S64x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x16x64x512 .f32) (harg7 : arg7.IsWhole) (arg8 : Memref sig .tc .vmem S64x1024 .bf16) (harg8 : arg8.IsWhole)
    (x0 : Vec Ideal S64x1024 .bf16) (x1 x2 : Vec Ideal S1024x1024 .bf16)
    (x3 x4 : Vec Ideal S256x1024 .bf16) (x5 : Vec Ideal S1x16x64x512 .f32) (y : S64x1024.Idx) :
    out0_A_6 c i arg2 harg2 arg3 harg3 arg4 harg4 arg5 harg5 arg6 harg6 arg7 harg7 arg8 harg8 x0 x1 x2 x3 x4 x5 y
      = blk (k0_off1 i 0) (row_le i) x0 x1 x2 x3 x4 x5 (y 0) (y 1) := by
  rw [out_tiles]
  have h1 : (y 1).val < 1024 := (y 1).isLt
  refine View.canon_ofFn_unit_eq_of_forall (S := S64x1024) (fun k : Fin 8 => ![0, 128 * (7 - k.val)]) ![64, 128] _ _ y _ ?_ ?_
  · refine ⟨⟨7 - (y 1).val / 128, by omega⟩, fun a => ?_⟩
    fin_cases a
    · exact ⟨Nat.zero_le _, by simpa using (y 0).isLt⟩
    · simp; omega
  · intro k x hx
    have e0 : (y 0).val = (x 0).val := by simpa using hx 0
    have e1 : (y 1).val = 128 * (7 - k.val) + (x 1).val := by simpa using hx 1
    have ex : x = ix2 (x 0) (x 1) := by funext a; fin_cases a <;> rfl
    have e0' : y 0 = x 0 := Fin.ext e0
    rw [ex, e0']
    exact tile_at _ _ _ _ _ _ _ _ _ _ _ _ e1

end Cert.KernelIdeal.Attn

end
-- ==== Proof.AttnArr.lean ====
/- The attention's array after the run, from its arguments and the bias table that the host makes. -/
module

public import proofs.«01_k».proof.Proof.AttnTiles

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Softmax

/-- A block's result is the attention's, when the blocks are what the arrays hold at point `t`. -/
theorem blk_attn (t : Fin 128) (r : ℕ) (hrt : r = winRow (t.val % 16) * 64) (hr : r ≤ 512) (x0 : Vec Ideal S64x1024 .bf16)
    (x1 x2 : Vec Ideal S1024x1024 .bf16) (x3 x4 : Vec Ideal S256x1024 .bf16) (x5 : Vec Ideal S1x16x64x512 .f32)
    (q k v : Fin 8192 → Fin 1024 → EReal) (ck cv : Fin 2048 → Fin 1024 → EReal) (rpb : Fin 16 → Fin 15 → Fin 31 → EReal)
    (h0 : ∀ (a : Fin 64) (b : Fin 1024), x0 (ix2 a b) = q ⟨t.val * 64 + a.val, by omega⟩ b)
    (h1 : ∀ (a : Fin 1024) (b : Fin 1024), x1 (ix2 a b) = k ⟨t.val / 16 * 1024 + a.val, by omega⟩ b)
    (h2 : ∀ (a : Fin 1024) (b : Fin 1024), x2 (ix2 a b) = v ⟨t.val / 16 * 1024 + a.val, by omega⟩ b)
    (h3 : ∀ (a : Fin 256) (b : Fin 1024), x3 (ix2 a b) = ck ⟨t.val / 16 * 256 + a.val, by omega⟩ b)
    (h4 : ∀ (a : Fin 256) (b : Fin 1024), x4 (ix2 a b) = cv ⟨t.val / 16 * 256 + a.val, by omega⟩ b)
    (h5 : ∀ (h : Fin 16) (a : Fin 64) (b : Fin 512), x5 (ix4 (0 : Fin 1) h a b)
      = rpb h ⟨winRow (t.val % 16) + 7 - t.val % 16 + b.val / 64, by unfold winRow; omega⟩
          ⟨biasCol a.val (b.val % 64), biasCol_lt _ _⟩)
    (i : Fin 64) (d : Fin 1024) (R : Fin 8192) (d' : Fin 1024) (hR : R.val = t.val * 64 + i.val) (hd : d'.val = d.val) :
    blk r hr x0 x1 x2 x3 x4 x5 i d = attn q k v ck cv rpb R d' := by
  obtain rfl : d' = d := Fin.ext hd
  have a1 : R.val / 1024 = t.val / 16 := by omega
  have a2 : R.val / 64 % 16 = t.val % 16 := by omega
  have a3 : R.val % 64 = i.val := by omega
  have a4 : R = ⟨t.val * 64 + i.val, by omega⟩ := Fin.ext hR
  have a5 : winRow (t.val % 16) ≤ 8 ∧ t.val % 16 ≤ winRow (t.val % 16) + 7 := by unfold winRow; omega
  have a6 : winRow (R.val / 64 % 16) = winRow (t.val % 16) := congrArg winRow a2
  unfold blk attn
  congr 1 <;> funext j
  · unfold scoreLoc
    refine if_congr (by rw [a3]) (congrArg₂ (· + ·) (congrArg (· * _) (Finset.sum_congr rfl fun e _ => ?_)) ?_) rfl
    · rw [h0, h1]
      exact congrArg₂ (· * ·) (congrArg₂ q a4.symm rfl) (congrArg₂ k (Fin.ext (by simp only; omega)) rfl)
    · rw [h5]
      exact congrArg₂ (rpb _) (Fin.ext (by simp only; omega)) (Fin.ext (by simp only; rw [a3]))
  · unfold scoreCtx
    refine congrArg (· * _) (Finset.sum_congr rfl fun e _ => ?_)
    rw [h0, h3]
    exact congrArg₂ (· * ·) (congrArg₂ q a4.symm rfl) (congrArg₂ ck (Fin.ext (by simp only; omega)) rfl)
  · unfold valLoc
    rw [h2]
    exact congrArg₂ v (Fin.ext (by simp only; omega)) rfl
  · unfold valCtx
    rw [h4]
    exact congrArg₂ cv (Fin.ext (by simp only; omega)) rfl

variable (m : (ℓ : Loc nD τ sig) → Buf (Elt Ideal) ℓ)

/-- The blocks' places, at every grid point. -/
theorem idx : ∀ t : Fin cfg0.N, win0_0.index t = ![t.val, 0] ∧ win0_1.index t = ![t.val / 16, 0]
    ∧ win0_2.index t = ![t.val / 16, 0] ∧ win0_3.index t = ![t.val / 16, 0] ∧ win0_4.index t = ![t.val / 16, 0]
    ∧ win0_5.index t = ![winRow (t.val % 16) + 7 - t.val % 16, 0, 0, 0] ∧ win0_6.index t = ![t.val, 0] :=
  (by decide +kernel : ∀ t : Fin grid0.N, _)

/-- The first row that a point reads of its window's block. -/
theorem row_at : ∀ t : Fin cfg0.N, k0_off1 (grid0.coords t) 0 = winRow (t.val % 16) * 64 :=
  (by decide +kernel : ∀ t : Fin grid0.N, _)

theorem arr_of_bias (c : Dev nD) (rpb : Fin 16 → Fin 15 → Fin 31 → EReal)
    (hB : ∀ (w : Fin 8) (h : Fin 16) (i : Fin 64) (j : Fin 512), (V m c main_v19 : Vec Ideal S8x16x64x512 .f32) (ix4 w h i j)
      = rpb h ⟨w.val + j.val / 64, by omega⟩ ⟨biasCol i.val (j.val % 64), biasCol_lt _ _⟩) :
    (dats m 0 c).arrAt 6 cfg0.N = (fun y : S8192x1024.Idx =>
      attn (fun a b => (m ((c : Thread nD τ).loc main_arg0) : Vec Ideal S8192x1024 .bf16) (ix2 a b))
        (fun a b => (m ((c : Thread nD τ).loc main_arg1) : Vec Ideal S8192x1024 .bf16) (ix2 a b))
        (fun a b => (m ((c : Thread nD τ).loc main_arg2) : Vec Ideal S8192x1024 .bf16) (ix2 a b))
        (fun a b => (m ((c : Thread nD τ).loc main_arg3) : Vec Ideal S2048x1024 .bf16) (ix2 a b))
        (fun a b => (m ((c : Thread nD τ).loc main_arg4) : Vec Ideal S2048x1024 .bf16) (ix2 a b))
        rpb (y 0) (y 1)) := by
  refine (dats m 0 c).arrAt_eq_of_covers 6 _ (by decide +kernel) fun t hf y => ?_
  blk_simp
  rw [after0_6, outsAt0]
  rw [out_at]
  obtain ⟨e0, e1, e2, e3, e4, e5, e6⟩ := idx t
  have hr := row_at t
  have ht : t.val < 128 := t.isLt
  have hy0 : (y 0).val < 64 := (y 0).isLt
  have hy1 : (y 1).val < 1024 := (y 1).isLt
  beta_reduce
  have E0 : ((((cfg0.win 6).blk t).view.emb y) 0).val = t.val * 64 + (y 0).val := by
    blk_simp [idx t]
  have E1 : ((((cfg0.win 6).blk t).view.emb y) 1).val = (y 1).val := by
    blk_simp [idx t]
  refine blk_attn ⟨t.val, ht⟩ _ hr _ _ _ _ _ _ _ _ _ _ _ _ rpb ?_ ?_ ?_ ?_ ?_ ?_ _ _ _ _ E0 E1
  · intro a b; blk_ext [iblk, V, idx t]
  · intro a b; blk_ext [iblk, V, idx t]
  · intro a b; blk_ext [iblk, V, idx t]
  · intro a b; blk_ext [iblk, V, idx t]
  · intro a b; blk_ext [iblk, V, idx t]
  · intro h a b
    refine Eq.trans ?_ (hB ⟨winRow (t.val % 16) + 7 - t.val % 16, by unfold winRow; omega⟩ h a b)
    unfold iblk
    blk_ext [idx t]

end Cert.KernelIdeal.Attn

end
-- ==== Proof.AttnLit.lean ====
/- The table of the bias's columns: entry `n` is one where its plane is the column of its pair of a query and a key, and
   zero elsewhere. The printed table goes by digits to base 128, so it is read digit by digit. -/
module

public import proofs.«01_k».proof.KernelIdeal
public import proofs.«01_k».proof.Proof.AttnSpec

@[expose] public section

set_option maxRecDepth 16384

namespace Cert.KernelIdeal.Attn

open Cert.KernelIdeal Cert.Softmax

/-- What entry `n` of the table is. -/
def litAt (n : ℕ) : BitVec 32 :=
  bif Nat.beq (Nat.min 30 (n % 64 + 15 - n / 64 % 64)) (n / 4096) then 0x3F800000#32 else 0#32

/-- The list's members are the table's entries from `n` on. -/
def run (n : ℕ) (l : List (BitVec 32)) : Bool :=
  List.rec (motive := fun _ => ℕ → Bool) (fun _ => true) (fun a _ ih n => Nat.beq a.toNat (litAt n).toNat && ih (n + 1)) l n

theorem run_at : ∀ (l : List (BitVec 32)) (n : ℕ), run n l = true → ∀ x, x < l.length → l.getD x 0#32 = litAt (n + x)
  | [], _, _, x, hx => absurd hx (Nat.not_lt_zero x)
  | a :: l, n, h, x, hx => by
    have h' : (Nat.beq a.toNat (litAt n).toNat && run (n + 1) l) = true := h
    rw [Bool.and_eq_true] at h'
    match x, hx with
    | 0, _ => exact BitVec.eq_of_toNat_eq (Nat.eq_of_beq_eq_true h'.1)
    | x + 1, hx =>
      rw [List.getD_cons_succ, run_at l (n + 1) h'.2 x (Nat.lt_of_succ_lt_succ hx)]
      exact congrArg litAt (by omega)

/-- `P` of every member of the list with its number, counted from `n`. -/
def Each (P : ℕ → BitVec 32 → Prop) : ℕ → List (BitVec 32) → Prop
  | _, [] => True
  | n, a :: l => P n a ∧ Each P (n + 1) l

theorem Each.at {P : ℕ → BitVec 32 → Prop} : ∀ {n : ℕ} {l : List (BitVec 32)}, Each P n l → ∀ x, x < l.length → P (n + x) (l.getD x 0#32)
  | _, [], _, x, hx => absurd hx (Nat.not_lt_zero x)
  | n, a :: l, h, 0, _ => h.1
  | n, a :: l, h, x + 1, hx => by
    have := Each.at h.2 x (Nat.lt_of_succ_lt_succ hx)
    rw [List.getD_cons_succ]
    rwa [Nat.add_assoc, Nat.add_comm 1 x] at this

theorem past_end (n x : ℕ) (h : ∀ k, k < n → x = k → False) : n ≤ x := not_lt.mp fun hx => h x hx rfl

/-- A digit's choice among 128 is the list's member. -/
theorem digit (x : ℕ) (
    a0 a1 a2 a3 a4 a5 a6 a7 a8 a9 a10 a11 a12 a13 a14 a15 a16 a17 a18 a19 a20 a21 a22 a23 a24 a25 a26 a27 a28 a29 a30
    a31 a32 a33 a34 a35 a36 a37 a38 a39 a40 a41 a42 a43 a44 a45 a46 a47 a48 a49 a50 a51 a52 a53 a54 a55 a56 a57 a58
    a59 a60 a61 a62 a63 a64 a65 a66 a67 a68 a69 a70 a71 a72 a73 a74 a75 a76 a77 a78 a79 a80 a81 a82 a83 a84 a85 a86
    a87 a88 a89 a90 a91 a92 a93 a94 a95 a96 a97 a98 a99 a100 a101 a102 a103 a104 a105 a106 a107 a108 a109 a110 a111
    a112 a113 a114 a115 a116 a117 a118 a119 a120 a121 a122 a123 a124 a125 a126 a127
    : BitVec 32) :
    lit0t0_956.match_1 (fun _ => BitVec 32) x
    (fun _ => a0) (fun _ => a1) (fun _ => a2) (fun _ => a3) (fun _ => a4) (fun _ => a5) (fun _ => a6) (fun _ => a7)
    (fun _ => a8) (fun _ => a9) (fun _ => a10) (fun _ => a11) (fun _ => a12) (fun _ => a13) (fun _ => a14) (fun _ =>
    a15) (fun _ => a16) (fun _ => a17) (fun _ => a18) (fun _ => a19) (fun _ => a20) (fun _ => a21) (fun _ => a22) (fun
    _ => a23) (fun _ => a24) (fun _ => a25) (fun _ => a26) (fun _ => a27) (fun _ => a28) (fun _ => a29) (fun _ => a30)
    (fun _ => a31) (fun _ => a32) (fun _ => a33) (fun _ => a34) (fun _ => a35) (fun _ => a36) (fun _ => a37) (fun _ =>
    a38) (fun _ => a39) (fun _ => a40) (fun _ => a41) (fun _ => a42) (fun _ => a43) (fun _ => a44) (fun _ => a45) (fun
    _ => a46) (fun _ => a47) (fun _ => a48) (fun _ => a49) (fun _ => a50) (fun _ => a51) (fun _ => a52) (fun _ => a53)
    (fun _ => a54) (fun _ => a55) (fun _ => a56) (fun _ => a57) (fun _ => a58) (fun _ => a59) (fun _ => a60) (fun _ =>
    a61) (fun _ => a62) (fun _ => a63) (fun _ => a64) (fun _ => a65) (fun _ => a66) (fun _ => a67) (fun _ => a68) (fun
    _ => a69) (fun _ => a70) (fun _ => a71) (fun _ => a72) (fun _ => a73) (fun _ => a74) (fun _ => a75) (fun _ => a76)
    (fun _ => a77) (fun _ => a78) (fun _ => a79) (fun _ => a80) (fun _ => a81) (fun _ => a82) (fun _ => a83) (fun _ =>
    a84) (fun _ => a85) (fun _ => a86) (fun _ => a87) (fun _ => a88) (fun _ => a89) (fun _ => a90) (fun _ => a91) (fun
    _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106)
    (fun _ => a107) (fun _ => a108) (fun _ => a109) (fun _ => a110) (fun _ => a111) (fun _ => a112) (fun _ => a113)
    (fun _ => a114) (fun _ => a115) (fun _ => a116) (fun _ => a117) (fun _ => a118) (fun _ => a119) (fun _ => a120)
    (fun _ => a121) (fun _ => a122) (fun _ => a123) (fun _ => a124) (fun _ => a125) (fun _ => a126) (fun _ => a127)
    (fun _ => 0#32) = List.getD [
    a0, a1, a2, a3, a4, a5, a6, a7, a8, a9, a10, a11, a12, a13, a14, a15, a16, a17, a18, a19, a20, a21, a22, a23, a24,
    a25, a26, a27, a28, a29, a30, a31, a32, a33, a34, a35, a36, a37, a38, a39, a40, a41, a42, a43, a44, a45, a46, a47,
    a48, a49, a50, a51, a52, a53, a54, a55, a56, a57, a58, a59, a60, a61, a62, a63, a64, a65, a66, a67, a68, a69, a70,
    a71, a72, a73, a74, a75, a76, a77, a78, a79, a80, a81, a82, a83, a84, a85, a86, a87, a88, a89, a90, a91, a92, a93,
    a94, a95, a96, a97, a98, a99, a100, a101, a102, a103, a104, a105, a106, a107, a108, a109, a110, a111, a112, a113,
    a114, a115, a116, a117, a118, a119, a120, a121, a122, a123, a124, a125, a126, a127
    ] x 0#32 := by
  split
  case h_129 =>
    rw [List.getD_eq_getElem?_getD, List.getElem?_eq_none]
    · rfl
    · refine past_end 128 x fun k hk => ?_
      interval_cases k <;> assumption
  all_goals rfl

/-- The last digit: the 128 entries from `128 n` on. -/
theorem lastDigit {n : ℕ} {
    a0 a1 a2 a3 a4 a5 a6 a7 a8 a9 a10 a11 a12 a13 a14 a15 a16 a17 a18 a19 a20 a21 a22 a23 a24 a25 a26 a27 a28 a29 a30
    a31 a32 a33 a34 a35 a36 a37 a38 a39 a40 a41 a42 a43 a44 a45 a46 a47 a48 a49 a50 a51 a52 a53 a54 a55 a56 a57 a58
    a59 a60 a61 a62 a63 a64 a65 a66 a67 a68 a69 a70 a71 a72 a73 a74 a75 a76 a77 a78 a79 a80 a81 a82 a83 a84 a85 a86
    a87 a88 a89 a90 a91 a92 a93 a94 a95 a96 a97 a98 a99 a100 a101 a102 a103 a104 a105 a106 a107 a108 a109 a110 a111
    a112 a113 a114 a115 a116 a117 a118 a119 a120 a121 a122 a123 a124 a125 a126 a127
    : BitVec 32} (h : run (128 * n) [
    a0, a1, a2, a3, a4, a5, a6, a7, a8, a9, a10, a11, a12, a13, a14, a15, a16, a17, a18, a19, a20, a21, a22, a23, a24,
    a25, a26, a27, a28, a29, a30, a31, a32, a33, a34, a35, a36, a37, a38, a39, a40, a41, a42, a43, a44, a45, a46, a47,
    a48, a49, a50, a51, a52, a53, a54, a55, a56, a57, a58, a59, a60, a61, a62, a63, a64, a65, a66, a67, a68, a69, a70,
    a71, a72, a73, a74, a75, a76, a77, a78, a79, a80, a81, a82, a83, a84, a85, a86, a87, a88, a89, a90, a91, a92, a93,
    a94, a95, a96, a97, a98, a99, a100, a101, a102, a103, a104, a105, a106, a107, a108, a109, a110, a111, a112, a113,
    a114, a115, a116, a117, a118, a119, a120, a121, a122, a123, a124, a125, a126, a127
    ] = true) (i : ℕ) (hi : i / 128 = n) :
    lit0t0_956.match_1 (fun _ => BitVec 32) (i % 128)
    (fun _ => a0) (fun _ => a1) (fun _ => a2) (fun _ => a3) (fun _ => a4) (fun _ => a5) (fun _ => a6) (fun _ => a7)
    (fun _ => a8) (fun _ => a9) (fun _ => a10) (fun _ => a11) (fun _ => a12) (fun _ => a13) (fun _ => a14) (fun _ =>
    a15) (fun _ => a16) (fun _ => a17) (fun _ => a18) (fun _ => a19) (fun _ => a20) (fun _ => a21) (fun _ => a22) (fun
    _ => a23) (fun _ => a24) (fun _ => a25) (fun _ => a26) (fun _ => a27) (fun _ => a28) (fun _ => a29) (fun _ => a30)
    (fun _ => a31) (fun _ => a32) (fun _ => a33) (fun _ => a34) (fun _ => a35) (fun _ => a36) (fun _ => a37) (fun _ =>
    a38) (fun _ => a39) (fun _ => a40) (fun _ => a41) (fun _ => a42) (fun _ => a43) (fun _ => a44) (fun _ => a45) (fun
    _ => a46) (fun _ => a47) (fun _ => a48) (fun _ => a49) (fun _ => a50) (fun _ => a51) (fun _ => a52) (fun _ => a53)
    (fun _ => a54) (fun _ => a55) (fun _ => a56) (fun _ => a57) (fun _ => a58) (fun _ => a59) (fun _ => a60) (fun _ =>
    a61) (fun _ => a62) (fun _ => a63) (fun _ => a64) (fun _ => a65) (fun _ => a66) (fun _ => a67) (fun _ => a68) (fun
    _ => a69) (fun _ => a70) (fun _ => a71) (fun _ => a72) (fun _ => a73) (fun _ => a74) (fun _ => a75) (fun _ => a76)
    (fun _ => a77) (fun _ => a78) (fun _ => a79) (fun _ => a80) (fun _ => a81) (fun _ => a82) (fun _ => a83) (fun _ =>
    a84) (fun _ => a85) (fun _ => a86) (fun _ => a87) (fun _ => a88) (fun _ => a89) (fun _ => a90) (fun _ => a91) (fun
    _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106)
    (fun _ => a107) (fun _ => a108) (fun _ => a109) (fun _ => a110) (fun _ => a111) (fun _ => a112) (fun _ => a113)
    (fun _ => a114) (fun _ => a115) (fun _ => a116) (fun _ => a117) (fun _ => a118) (fun _ => a119) (fun _ => a120)
    (fun _ => a121) (fun _ => a122) (fun _ => a123) (fun _ => a124) (fun _ => a125) (fun _ => a126) (fun _ => a127)
    (fun _ => 0#32) = litAt i := by
  rw [digit, run_at _ _ h _ (by simp only [List.length_cons, List.length_nil]; omega)]
  exact congrArg litAt (by omega)

/-- The digit before it, likewise, from what is known of each of its choices. -/
theorem midDigit {i n : ℕ} {
    a0 a1 a2 a3 a4 a5 a6 a7 a8 a9 a10 a11 a12 a13 a14 a15 a16 a17 a18 a19 a20 a21 a22 a23 a24 a25 a26 a27 a28 a29 a30
    a31 a32 a33 a34 a35 a36 a37 a38 a39 a40 a41 a42 a43 a44 a45 a46 a47 a48 a49 a50 a51 a52 a53 a54 a55 a56 a57 a58
    a59 a60 a61 a62 a63 a64 a65 a66 a67 a68 a69 a70 a71 a72 a73 a74 a75 a76 a77 a78 a79 a80 a81 a82 a83 a84 a85 a86
    a87 a88 a89 a90 a91 a92 a93 a94 a95 a96 a97 a98 a99 a100 a101 a102 a103 a104 a105 a106 a107 a108 a109 a110 a111
    a112 a113 a114 a115 a116 a117 a118 a119 a120 a121 a122 a123 a124 a125 a126 a127
    : BitVec 32} (h : Each (fun j a => i / 128 = j → a = litAt i) (128 * n) [
    a0, a1, a2, a3, a4, a5, a6, a7, a8, a9, a10, a11, a12, a13, a14, a15, a16, a17, a18, a19, a20, a21, a22, a23, a24,
    a25, a26, a27, a28, a29, a30, a31, a32, a33, a34, a35, a36, a37, a38, a39, a40, a41, a42, a43, a44, a45, a46, a47,
    a48, a49, a50, a51, a52, a53, a54, a55, a56, a57, a58, a59, a60, a61, a62, a63, a64, a65, a66, a67, a68, a69, a70,
    a71, a72, a73, a74, a75, a76, a77, a78, a79, a80, a81, a82, a83, a84, a85, a86, a87, a88, a89, a90, a91, a92, a93,
    a94, a95, a96, a97, a98, a99, a100, a101, a102, a103, a104, a105, a106, a107, a108, a109, a110, a111, a112, a113,
    a114, a115, a116, a117, a118, a119, a120, a121, a122, a123, a124, a125, a126, a127
    ]) (hi : i / 16384 = n) :
    lit0t0_956.match_1 (fun _ => BitVec 32) (i / 128 % 128)
    (fun _ => a0) (fun _ => a1) (fun _ => a2) (fun _ => a3) (fun _ => a4) (fun _ => a5) (fun _ => a6) (fun _ => a7)
    (fun _ => a8) (fun _ => a9) (fun _ => a10) (fun _ => a11) (fun _ => a12) (fun _ => a13) (fun _ => a14) (fun _ =>
    a15) (fun _ => a16) (fun _ => a17) (fun _ => a18) (fun _ => a19) (fun _ => a20) (fun _ => a21) (fun _ => a22) (fun
    _ => a23) (fun _ => a24) (fun _ => a25) (fun _ => a26) (fun _ => a27) (fun _ => a28) (fun _ => a29) (fun _ => a30)
    (fun _ => a31) (fun _ => a32) (fun _ => a33) (fun _ => a34) (fun _ => a35) (fun _ => a36) (fun _ => a37) (fun _ =>
    a38) (fun _ => a39) (fun _ => a40) (fun _ => a41) (fun _ => a42) (fun _ => a43) (fun _ => a44) (fun _ => a45) (fun
    _ => a46) (fun _ => a47) (fun _ => a48) (fun _ => a49) (fun _ => a50) (fun _ => a51) (fun _ => a52) (fun _ => a53)
    (fun _ => a54) (fun _ => a55) (fun _ => a56) (fun _ => a57) (fun _ => a58) (fun _ => a59) (fun _ => a60) (fun _ =>
    a61) (fun _ => a62) (fun _ => a63) (fun _ => a64) (fun _ => a65) (fun _ => a66) (fun _ => a67) (fun _ => a68) (fun
    _ => a69) (fun _ => a70) (fun _ => a71) (fun _ => a72) (fun _ => a73) (fun _ => a74) (fun _ => a75) (fun _ => a76)
    (fun _ => a77) (fun _ => a78) (fun _ => a79) (fun _ => a80) (fun _ => a81) (fun _ => a82) (fun _ => a83) (fun _ =>
    a84) (fun _ => a85) (fun _ => a86) (fun _ => a87) (fun _ => a88) (fun _ => a89) (fun _ => a90) (fun _ => a91) (fun
    _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106)
    (fun _ => a107) (fun _ => a108) (fun _ => a109) (fun _ => a110) (fun _ => a111) (fun _ => a112) (fun _ => a113)
    (fun _ => a114) (fun _ => a115) (fun _ => a116) (fun _ => a117) (fun _ => a118) (fun _ => a119) (fun _ => a120)
    (fun _ => a121) (fun _ => a122) (fun _ => a123) (fun _ => a124) (fun _ => a125) (fun _ => a126) (fun _ => a127)
    (fun _ => 0#32) = litAt i := by
  rw [digit]
  exact h.at _ (by simp only [List.length_cons, List.length_nil]; omega) (by omega)

end Cert.KernelIdeal.Attn
-- ==== Proof.AttnLitAll.lean ====
/- The table of the bias's columns, all of it. -/
module

public import proofs.«01_k».proof.Proof.AttnLit

@[expose] public section

set_option maxRecDepth 16384

namespace Cert.KernelIdeal.Attn

open Cert.KernelIdeal Cert.Softmax

set_option maxHeartbeats 2000000 in
/-- The table's last plane, of 96 choices. -/
theorem lastPlane (i : ℕ) (hi : i / 16384 = 7) (hn : i < 126976) : lit0t1_7 i = litAt i := by
  unfold lit0t1_7
  split
  case h_97 =>
    have := past_end 96 (i / 128 % 128) fun k hk => by interval_cases k <;> assumption
    omega
  all_goals
    rename_i h
    have h2 : i / 128 = 896 + i / 128 % 128 := by omega
    rw [h] at h2
    exact lastDigit (by decide +kernel) i h2

set_option maxHeartbeats 2000000 in
/-- The printed table is the one described. -/
theorem table (i : ℕ) (hn : i < 126976) : lit0t i = litAt i := by
  unfold lit0t
  split
  case h_8 h => exact lastPlane i h hn
  case h_9 =>
    have := past_end 8 (i / 16384) fun k hk => by interval_cases k <;> assumption
    omega
  all_goals
    rename_i h
    refine midDigit ?_ h
    repeat' refine And.intro ?_ ?_
    all_goals first | exact trivial | exact lastDigit (by decide +kernel) i

end Cert.KernelIdeal.Attn
-- ==== Proof.AttnBias.lean ====
/- The bias table that the host makes: each entry is the learned bias of its head, row distance and column distance. -/
module

public import proofs.«01_k».proof.Proof.AttnArr
public import proofs.«01_k».proof.Proof.AttnLitAll
public import Idealize.ShloMosaic.Lib.StableHlo.RunRead

@[expose] public section

set_option maxRecDepth 16384

noncomputable section

namespace Cert.KernelIdeal.Attn

open Cert.KernelIdeal Cert.KernelIdeal.Gen Idealize.ShloMosaic Idealize.ShloMosaic.TcCoe Idealize.SL.Sem
open Cert.Softmax

variable (m : (ℓ : Loc nD τ sig) → Buf (Elt Ideal) ℓ)

/-- The table as the host has it. -/
abbrev tab : FVec Ideal S31x64x64 .f32 := fun i => FloatOps.ofBits (F := Ideal) .f32 (lit0 (S31x64x64.rowMajor i))

/-- The biases against the table: at each row distance, the bias of each pair of a query and a key. -/
def prod (x : FVec Ideal S16x15x31 .f32) : FVec Ideal S16x15x64x64 .f32 :=
  Host.dotGeneral (F := Ideal) (φ₁ := .f32) (φ₂ := .f32) dot_S16x15x31_S31x64x64_S16x15x64x64_2_0_01_12_n_n (some ContractPrecision.fp32) x tab

theorem lit0_eq (p : Fin 126976) (n : ℕ) (hp : p.val = n) (hn : n < 126976) : lit0 p = litAt n := by
  subst hp
  refine Eq.trans ?_ (table _ hn)
  cases p
  rfl

theorem lit_at (c : Fin 31) (i k : Fin 64) : lit0 (S31x64x64.rowMajor (ix3 c i k))
    = if biasCol i.val k.val = c.val then 0x3F800000#32 else 0#32 := by
  have hn : (S31x64x64.rowMajor (ix3 c i k)).val = c.val * 4096 + i.val * 64 + k.val := by
    refine (Shape.rowMajor_val_three (d := ![31, 64, 64]) (ix3 c i k)).trans ?_
    show (c.val * 64 + i.val) * 64 + k.val = _
    omega
  rw [lit0_eq _ _ hn (by omega)]
  unfold litAt
  rw [show (c.val * 4096 + i.val * 64 + k.val) % 64 = k.val from by omega,
    show (c.val * 4096 + i.val * 64 + k.val) / 64 % 64 = i.val from by omega,
    show (c.val * 4096 + i.val * 64 + k.val) / 4096 = c.val from by omega]
  show (bif Nat.beq (biasCol i.val k.val) c.val then _ else _) = _
  by_cases hc : biasCol i.val k.val = c.val
  · rw [if_pos hc, hc, Nat.beq_refl]; rfl
  · rw [if_neg hc, Bool.eq_false_iff.mpr fun hb => hc (Nat.eq_of_beq_eq_true hb)]; rfl

theorem prod_at (x : FVec Ideal S16x15x31 .f32) (h : Fin 16) (a : Fin 15) (i k : Fin 64) :
    prod x (ix4 h a i k) = x (ix3 h a ⟨biasCol i.val k.val, biasCol_lt _ _⟩) := by
  pointwise [prod]
  rw [Finset.sum_eq_single (⟨biasCol i.val k.val, biasCol_lt _ _⟩ : Fin 31)]
  · rw [lit_at, if_pos rfl]
    pointwise []
  · intro c _ hc
    rw [lit_at, if_neg fun h' => hc (Fin.ext h'.symm)]
    pointwise []
    exact mul_zero _
  · exact fun hc => absurd (Finset.mem_univ _) hc

set_option maxHeartbeats 800000 in
theorem bias_at (c : Dev nD) (w : Fin 8) (h : Fin 16) (i : Fin 64) (j : Fin 512) :
    (V m c main_v19 : Vec Ideal S8x16x64x512 .f32) (ix4 w h i j)
      = (m ((c : Thread nD τ).loc main_arg5) : Vec Ideal S16x15x31 .f32)
          (ix3 h ⟨w.val + j.val / 64, by omega⟩ ⟨biasCol i.val (j.val % 64), biasCol_lt _ _⟩) := by
  after_reads_simp
  dsimp only [Matrix.cons_val]
  pointwise []
  after_reads_simp
  have hp := prod_at (m ((c : Thread nD τ).loc main_arg5))
  generalize hD : Host.dotGeneral (F := Ideal) (φ₁ := .f32) (φ₂ := .f32) dot_S16x15x31_S31x64x64_S16x15x64x64_2_0_01_12_n_n _ _ _ = D
  replace hp : ∀ h a i k, D (ix4 h a i k) = _ := fun h a i k => (congrFun hD.symm _).trans (hp h a i k)
  clear hD
  pointwise []
  refine Eq.trans ?_ (hp h ⟨w.val + j.val / 64, by omega⟩ i ⟨j.val % 64, by omega⟩)
  split_ifs
  all_goals
    refine congrArg (fun a => D (ix4 h a i _)) (Fin.ext ?_)
    simp only
    omega

end Cert.KernelIdeal.Attn

end
-- ==== Proof.RefIdx.lean ====
/- The reference's index tables, read at an index: rows, columns and the mask. -/
module

public import proofs.«01_k».proof.Proof.Gen.ReferenceIdeal.Read
public import Idealize.ShloMosaic.Lib.Pointwise
public import proofs.«01_k».proof.Proof.AttnSpec

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax

theorem v19_at (r : Fin 16) (a : Fin 8) : val_main_v19 (F := Ideal) (ix2 r a) = BitVec.ofNat 32 (winRow r.val + a.val) := by
  pointwise [val_main_v19, val_main_v18, val_main_v17, val_main_v16, val_main_v15, val_main_v14, val_main_v13, val_main_v12, val_main_v11, val_main_v10, val_main_c, val_main_c_0, val_main_c_1, val_main_call0_v0, val_main_call0_v1, val_main_call0_v2, val_main_call0_v3, val_main_call0_v4]
  revert r a
  decide +kernel

theorem v43_at (i j : Fin 64) : val_main_v43 (F := Ideal) (ix2 i j) = if InWin i.val j.val then 1#1 else 0#1 := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_3, val_main_c_4, val_main_c_5, val_main_c_6, val_main_call1_v0, val_main_call1_v1, val_main_call1_v2, val_main_call1_v3, val_main_call1_v4]
  revert i j
  decide +kernel

theorem v53_at (i j : Fin 64) : val_main_v53 (F := Ideal) (ix2 i j) = BitVec.ofNat 32 (biasCol i.val j.val) := by
  pointwise [val_main_v53, val_main_v52, val_main_v51, val_main_v50, val_main_v49, val_main_v48, val_main_v47, val_main_v46, val_main_v45, val_main_v44, val_main_v30, val_main_v26, val_main_c_7, val_main_c_8, val_main_c_9, val_main_c_10, val_main_call2_v0, val_main_call2_v1, val_main_call2_v2, val_main_call2_v3, val_main_call2_v4]
  revert i j
  decide +kernel

theorem row_word : ∀ (r : Fin 16) (a : Fin 8),
    Scalar.select (IntOp.cmpi .slt (BitVec.ofNat 32 (winRow r.val + a.val)) 0#32)
      (IntOp.addi (BitVec.ofNat 32 (winRow r.val + a.val)) 16#32) (BitVec.ofNat 32 (winRow r.val + a.val))
      = BitVec.ofNat 32 (winRow r.val + a.val) := by decide +kernel

/-- The window's rows, as the keys' gather reads them. -/
theorem v81_at (r : Fin 16) (a : Fin 8) (z : Fin 1) : val_main_v81 (F := Ideal) (ix3 r a z) = BitVec.ofNat 32 (winRow r.val + a.val) := by
  pointwise [val_main_v81, val_main_v80, val_main_v79, val_main_v78, val_main_v77, val_main_v76, val_main_c_15, val_main_c_16]
  rw [v19_at]
  exact row_word r a

/-- … and as the values' does. -/
theorem v89_at (r : Fin 16) (a : Fin 8) (z : Fin 1) : val_main_v89 (F := Ideal) (ix3 r a z) = BitVec.ofNat 32 (winRow r.val + a.val) := by
  pointwise [val_main_v89, val_main_v88, val_main_v87, val_main_v86, val_main_v85, val_main_v84, val_main_c_17, val_main_c_18]
  rw [v19_at]
  exact row_word r a

theorem off_word : ∀ (r : Fin 16) (a : Fin 8),
    Scalar.select (IntOp.cmpi .slt (IntOp.addi (IntOp.subi (BitVec.ofNat 32 (winRow r.val + a.val)) (BitVec.ofNat 32 r.val)) 7#32) 0#32)
      (IntOp.addi (IntOp.addi (IntOp.subi (BitVec.ofNat 32 (winRow r.val + a.val)) (BitVec.ofNat 32 r.val)) 7#32) 15#32)
      (IntOp.addi (IntOp.subi (BitVec.ofNat 32 (winRow r.val + a.val)) (BitVec.ofNat 32 r.val)) 7#32)
      = BitVec.ofNat 32 (winRow r.val + a.val + 7 - r.val) := by decide +kernel

/-- The bias's row of each window row. -/
theorem v69_at (r : Fin 16) (i : Fin 64) (a : Fin 8) (j : Fin 64) :
    val_main_v69 (F := Ideal) (ix4 r i a j) = BitVec.ofNat 32 (winRow r.val + a.val + 7 - r.val) := by
  pointwise [val_main_v69, val_main_v63, val_main_v62, val_main_v61, val_main_v60, val_main_v59, val_main_v57, val_main_v25, val_main_v24, val_main_v23, val_main_v22, val_main_v21, val_main_v20, val_main_c_11, val_main_c_12, val_main_c_2]
  rw [v19_at]
  exact off_word r a

theorem col_word : ∀ n : Fin 31,
    Scalar.select (IntOp.cmpi .slt (BitVec.ofNat 32 n.val) 0#32)
      (IntOp.addi (BitVec.ofNat 32 n.val) 31#32) (BitVec.ofNat 32 n.val) = BitVec.ofNat 32 n.val := by decide +kernel

/-- The bias's column of each pair of a query and a key. -/
theorem v70_at (r : Fin 16) (i : Fin 64) (a : Fin 8) (j : Fin 64) :
    val_main_v70 (F := Ideal) (ix4 r i a j) = BitVec.ofNat 32 (biasCol i.val j.val) := by
  pointwise [val_main_v70, val_main_v68, val_main_v67, val_main_v66, val_main_v65, val_main_v64, val_main_v58, val_main_c_13, val_main_c_14]
  rw [v53_at]
  exact col_word ⟨biasCol i.val j.val, biasCol_lt _ _⟩

theorem v73_at0 (r : Fin 16) (i : Fin 64) (a : Fin 8) (j : Fin 64) :
    val_main_v73 (F := Ideal) (ix5 r i a j (0 : Fin 2)) = BitVec.ofNat 32 (winRow r.val + a.val + 7 - r.val) := by
  pointwise [val_main_v73, val_main_v71, val_main_v72]
  exact v69_at r i a j

theorem v73_at1 (r : Fin 16) (i : Fin 64) (a : Fin 8) (j : Fin 64) :
    val_main_v73 (F := Ideal) (ix5 r i a j (1 : Fin 2)) = BitVec.ofNat 32 (biasCol i.val j.val) := by
  pointwise [val_main_v73, val_main_v71, val_main_v72]
  exact v70_at r i a j

/-- The mask over a window's keys. -/
theorem v56_at (i : Fin 64) (j : Fin 512) :
    val_main_v56 (F := Ideal) (ix2 i j) = if InWin i.val (j.val % 64) then 1#1 else 0#1 := by
  pointwise [val_main_v56, val_main_v55, val_main_v54]
  exact v43_at i ⟨j.val % 64, by omega⟩

end Cert.ReferenceIdeal.Attn

end
-- ==== Proof.RefGather.lean ====
/- The reference's gathers, read at an index. -/
module

public import proofs.«01_k».proof.Proof.RefIdx

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax

theorem word_toNat (n : ℕ) (h : n < 1000) : (BitVec.ofNat 32 n).toInt.toNat = n := by
  have h1 : (BitVec.ofNat 32 n).toNat = n := by rw [BitVec.toNat_ofNat]; omega
  rw [BitVec.toInt_eq_toNat_of_lt (by rw [h1]; omega), h1]
  rfl

/-- Where the bias's gather reads the index table: at its own place, component by component. -/
theorem si74 (h : Fin 16) (r : Fin 16) (i : Fin 64) (a : Fin 8) (j : Fin 64) (t : Fin 2) :
    gather_S16x15x31_S16x64x8x64x2_S16x16x64x8x64_0_12_n_n_12_4_1611.siIdx (ix5 h r i a j) t = ix5 r i a j t := by
  funext b
  unfold GatherDims.siIdx
  fin_cases b
  · rw [dif_neg (by decide)]; rfl
  · rw [dif_neg (by decide)]; rfl
  · rw [dif_neg (by decide)]; rfl
  · rw [dif_neg (by decide)]; rfl
  · rw [dif_pos (by decide)]; rfl

/-- The bias gathered at its row and column. -/
theorem v74_at (x5 : (⟨S16x15x31, .f32⟩ : BufTy).Contents (Elt Ideal)) (h : Fin 16) (r : Fin 16) (i : Fin 64) (a : Fin 8) (j : Fin 64) :
    val_main_v74 (F := Ideal) x5 (ix5 h r i a j)
      = (x5 : Vec Ideal S16x15x31 .f32) (ix3 h ⟨winRow r.val + a.val + 7 - r.val, by unfold winRow; omega⟩ ⟨biasCol i.val j.val, biasCol_lt _ _⟩) := by
  unfold val_main_v74 Host.gather
  refine congrArg x5 (funext fun b => Fin.ext ?_)
  show GatherDims.start _ _ _ b + GatherDims.batchCoord _ _ b + GatherDims.offCoord _ _ b = _
  rw [GatherDims.batchCoord_eq_zero _ _ _ (List.not_mem_nil)]
  unfold GatherDims.start GatherDims.offCoord
  have hb : winRow r.val + a.val + 7 - r.val < 15 := by unfold winRow; omega
  have hc := biasCol_lt i.val j.val
  fin_cases b
  · rw [dif_neg (by decide), dif_pos (by decide)]
    exact (Nat.zero_add _).trans rfl
  · rw [dif_pos (by decide), dif_neg (by decide)]
    refine (congrArg (fun w : BitVec 32 => min w.toInt.toNat 14 + 0 + 0)
      ((congrArg (val_main_v73 (F := Ideal)) (si74 h r i a j 0)).trans (v73_at0 r i a j))).trans ?_
    show min (BitVec.ofNat 32 _).toInt.toNat 14 + 0 + 0 = winRow r.val + a.val + 7 - r.val
    rw [word_toNat _ (by omega)]
    omega
  · rw [dif_pos (by decide), dif_neg (by decide)]
    refine (congrArg (fun w : BitVec 32 => min w.toInt.toNat 30 + 0 + 0)
      ((congrArg (val_main_v73 (F := Ideal)) (si74 h r i a j 1)).trans (v73_at1 r i a j))).trans ?_
    show min (BitVec.ofNat 32 _).toInt.toNat 30 + 0 + 0 = biasCol i.val j.val
    rw [word_toNat _ (by omega)]
    omega

/-- Where a row gather reads the row table. -/
theorem si82 (b : Fin 8) (r : Fin 16) (a : Fin 8) (j : Fin 64) (h : Fin 16) (e : Fin 64) (t : Fin 1) :
    gather_S8x16x64x16x64_S16x8x1_S8x16x8x64x16x64_0345_1_n_n_1_2_81641664.siIdx (ix6 b r a j h e) t = ix3 r a t := by
  funext b
  unfold GatherDims.siIdx
  fin_cases b
  · rw [dif_neg (by decide)]; rfl
  · rw [dif_neg (by decide)]; rfl
  · rw [dif_pos (by decide)]; rfl

/-- Rows of the keys or of the values, gathered. -/
theorem rows_at (x : S8x16x64x16x64.Idx → EReal) (w : IVec S16x8x1 32)
    (hw : ∀ (r : Fin 16) (a : Fin 8) (z : Fin 1), w (ix3 r a z) = BitVec.ofNat 32 (winRow r.val + a.val))
    (b : Fin 8) (r : Fin 16) (a : Fin 8) (j : Fin 64) (h : Fin 16) (e : Fin 64) :
    Host.gather gather_S8x16x64x16x64_S16x8x1_S8x16x8x64x16x64_0345_1_n_n_1_2_81641664 x w (ix6 b r a j h e)
      = x (ix5 b ⟨winRow r.val + a.val, by unfold winRow; omega⟩ j h e) := by
  unfold Host.gather
  refine congrArg x (funext fun c => Fin.ext ?_)
  show GatherDims.start _ _ _ c + GatherDims.batchCoord _ _ c + GatherDims.offCoord _ _ c = _
  rw [GatherDims.batchCoord_eq_zero _ _ _ (List.not_mem_nil)]
  unfold GatherDims.start GatherDims.offCoord
  have hb : winRow r.val + a.val < 16 := by unfold winRow; omega
  fin_cases c
  · rw [dif_neg (by decide), dif_pos (by decide)]
    exact (Nat.zero_add _).trans rfl
  · rw [dif_pos (by decide), dif_neg (by decide)]
    refine (congrArg (fun w : BitVec 32 => min w.toInt.toNat 15 + 0 + 0)
      ((congrArg w (si82 b r a j h e 0)).trans (hw r a 0))).trans ?_
    show min (BitVec.ofNat 32 _).toInt.toNat 15 + 0 + 0 = winRow r.val + a.val
    rw [word_toNat _ (by omega)]
    omega
  · rw [dif_neg (by decide), dif_pos (by decide)]
    exact (Nat.zero_add _).trans rfl
  · rw [dif_neg (by decide), dif_pos (by decide)]
    exact (Nat.zero_add _).trans rfl
  · rw [dif_neg (by decide), dif_pos (by decide)]
    exact (Nat.zero_add _).trans rfl

end Cert.ReferenceIdeal.Attn

end
-- ==== Proof.RefMax.lean ====
/- The greatest entry along the last axis, read at an index. -/
module

public import proofs.«01_k».proof.Proof.RefGather
public import proofs.«01_k».proof.Proof.AttnSpec

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax

theorem lift_last (hr : S8x16x16x64x768.Reduces [4] S8x16x16x64) (b : Fin 8) (h r : Fin 16) (i : Fin 64) (j : Fin 768) :
    hr.lift (ix4 b h r i) j = ix5 b h r i j := by
  funext c
  refine Fin.ext ((hr.lift_val _ _ _).trans ?_)
  unfold Shape.Reduces.liftVal
  fin_cases c <;> rfl

theorem max_last (h' : S8x16x16x64x768.ReducesTo [4] S8x16x16x64) (hu : 0 < S_.numel)
    (x : FVec Ideal S8x16x16x64x768 .f32) (z : FVec Ideal S_ .f32) (b : Fin 8) (h r : Fin 16) (i : Fin 64) :
    Host.reduce (FloatOps.maximumf (F := Ideal) (φ := .f32)) x z h' hu (ix4 b h r i)
      = Finset.univ.fold max (z (Shape.Idx.first hu)) fun j : Fin 768 => x (ix5 b h r i j) := by
  have hr : S8x16x16x64x768.Reduces [4] S8x16x16x64 := by decide
  refine (Host.reduce_eq_fold_single _ x z _ hr _ _).trans ?_
  exact congrArg (fun f => Finset.univ.fold max (z (Shape.Idx.first hu)) f) (funext fun j => congrArg x (lift_last hr b h r i j))

end Cert.ReferenceIdeal.Attn

end
-- ==== Proof.RefScore.lean ====
/- The reference's scores, read at an index. -/
module

public import proofs.«01_k».proof.Proof.RefMax
public import proofs.«01_k».proof.Proof.AttnSpec

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax

/-- Queries, keys or values, and the context's, as the calls receive them. -/
abbrev Toks := (⟨S8192x1024, .bf16⟩ : BufTy).Contents (Elt Ideal)
abbrev Ctx := (⟨S2048x1024, .bf16⟩ : BufTy).Contents (Elt Ideal)
abbrev Bias := (⟨S16x15x31, .f32⟩ : BufTy).Contents (Elt Ideal)

/-- Their entries by coordinates. -/
def tok (x : Toks) (a : Fin 8192) (b : Fin 1024) : EReal := (x : Vec Ideal S8192x1024 .bf16) (ix2 a b)
def ctx (x : Ctx) (a : Fin 2048) (b : Fin 1024) : EReal := (x : Vec Ideal S2048x1024 .bf16) (ix2 a b)
def bia (x : Bias) (h : Fin 16) (a : Fin 15) (b : Fin 31) : EReal := (x : Vec Ideal S16x15x31 .f32) (ix3 h a b)

/-- The token at row `r`, column `i` of batch `b`; lane `e` of head `h`. -/
abbrev at3 (b : Fin 8) (r : Fin 16) (i : Fin 64) : Fin 8192 := ⟨b.val * 1024 + r.val * 64 + i.val, by omega⟩
abbrev at2 (h : Fin 16) (e : Fin 64) : Fin 1024 := ⟨h.val * 64 + e.val, by omega⟩

theorem v1_at (x : Toks) (b : Fin 8) (r : Fin 16) (j : Fin 64) (h : Fin 16) (e : Fin 64) :
    val_main_v1 (F := Ideal) x (ix5 b r j h e) = tok x (at3 b r j) (at2 h e) := by
  pointwise [val_main_v1, val_main_v0, tok]

theorem v3_at (x : Toks) (b : Fin 8) (r : Fin 16) (j : Fin 64) (h : Fin 16) (e : Fin 64) :
    val_main_v3 (F := Ideal) x (ix5 b r j h e) = tok x (at3 b r j) (at2 h e) := by
  pointwise [val_main_v3, val_main_v2, tok]

theorem v5_at (x : Toks) (b : Fin 8) (r : Fin 16) (j : Fin 64) (h : Fin 16) (e : Fin 64) :
    val_main_v5 (F := Ideal) x (ix5 b r j h e) = tok x (at3 b r j) (at2 h e) := by
  pointwise [val_main_v5, val_main_v4, tok]

/-- The rows taken for a query's window are one run of the batch's tokens. -/
theorem at3_win (b : Fin 8) (r : Fin 16) (j : Fin 512) :
    at3 b ⟨winRow r.val + j.val / 64, by unfold winRow; omega⟩ ⟨j.val % 64, by omega⟩
      = ⟨b.val * 1024 + winRow r.val * 64 + j.val, by unfold winRow; omega⟩ :=
  Fin.ext (by show b.val * 1024 + (winRow r.val + j.val / 64) * 64 + j.val % 64 = b.val * 1024 + winRow r.val * 64 + j.val; omega)

theorem v83_at (x : Toks) (b : Fin 8) (r : Fin 16) (j : Fin 512) (h : Fin 16) (e : Fin 64) :
    val_main_v83 (F := Ideal) x (ix5 b r j h e)
      = tok x ⟨b.val * 1024 + winRow r.val * 64 + j.val, by unfold winRow; omega⟩ (at2 h e) := by
  refine Eq.trans (b := val_main_v82 (F := Ideal) x (ix6 b r ⟨j.val / 64, by omega⟩ ⟨j.val % 64, by omega⟩ h e)) ?_ ?_
  · pointwise [val_main_v83]
  · unfold val_main_v82
    refine (rows_at (val_main_v3 (F := Ideal) x) _ v81_at b r _ _ h e).trans ?_
    rw [v3_at, at3_win]

theorem v91_at (x : Toks) (b : Fin 8) (r : Fin 16) (j : Fin 512) (h : Fin 16) (e : Fin 64) :
    val_main_v91 (F := Ideal) x (ix5 b r j h e)
      = tok x ⟨b.val * 1024 + winRow r.val * 64 + j.val, by unfold winRow; omega⟩ (at2 h e) := by
  refine Eq.trans (b := val_main_v90 (F := Ideal) x (ix6 b r ⟨j.val / 64, by omega⟩ ⟨j.val % 64, by omega⟩ h e)) ?_ ?_
  · pointwise [val_main_v91]
  · unfold val_main_v90
    refine (rows_at (val_main_v5 (F := Ideal) x) _ v89_at b r _ _ h e).trans ?_
    rw [v5_at, at3_win]

theorem v99_at (x0 x1 : Toks) (x5 : Bias) (b : Fin 8) (h r : Fin 16) (i : Fin 64) (j : Fin 512) (d : Fin 1024) (hd : d.val / 64 = h.val) :
    val_main_v99 (F := Ideal) x0 x1 x5 (ix5 b h r i j)
      = scoreLoc (tok x0) (tok x1) (bia x5) (at3 b r i) d j := by
  have h1 : (b.val * 1024 + r.val * 64 + i.val) / 1024 = b.val := by omega
  have h2 : (b.val * 1024 + r.val * 64 + i.val) / 64 % 16 = r.val := by omega
  have h3 : (b.val * 1024 + r.val * 64 + i.val) % 64 = i.val := by omega
  pointwise [val_main_v99, val_main_v98, val_main_v97, val_main_v96, val_main_v95, val_main_v94, val_main_v93, val_main_v92, val_main_v75, val_main_cst, val_main_cst_19, val_main_call3_v0, val_main_call3_v1, val_main_call3_v2]
  rw [v56_at]
  unfold scoreLoc
  simp only [v1_at, v83_at, v74_at, h1, h2, h3, hd]
  split
  · rfl
  · rfl

theorem v102_at (x0 : Toks) (x3 : Ctx) (b : Fin 8) (h r : Fin 16) (i : Fin 64) (j : Fin 256) (d : Fin 1024) (hd : d.val / 64 = h.val) :
    val_main_v102 (F := Ideal) x0 x3 (ix5 b h r i j) = scoreCtx (tok x0) (ctx x3) (at3 b r i) d j := by
  have h1 : (b.val * 1024 + r.val * 64 + i.val) / 1024 = b.val := by omega
  pointwise [val_main_v102, val_main_v101, val_main_v100, val_main_v7, val_main_v6, val_main_cst_20]
  unfold scoreCtx
  simp only [v1_at, h1, hd]
  rfl

/-- The scores of one query and head: the window's, then the context's. -/
def scores (x0 x1 : Toks) (x3 : Ctx) (x5 : Bias) (R : Fin 8192) (d : Fin 1024) : Fin 768 → EReal :=
  join (by decide : 768 = 512 + 256) (scoreLoc (tok x0) (tok x1) (bia x5) R d) (scoreCtx (tok x0) (ctx x3) R d)

theorem v103_at (x0 x1 : Toks) (x3 : Ctx) (x5 : Bias) (b : Fin 8) (h r : Fin 16) (i : Fin 64) (j : Fin 768)
    (d : Fin 1024) (hd : d.val / 64 = h.val) :
    val_main_v103 (F := Ideal) x0 x1 x3 x5 (ix5 b h r i j) = scores x0 x1 x3 x5 (at3 b r i) d j := by
  pointwise [val_main_v103]
  unfold scores join
  split
  · exact v99_at x0 x1 x5 b h r i _ d hd
  · exact v102_at x0 x3 b h r i _ d hd

theorem v104_at (x0 x1 : Toks) (x3 : Ctx) (x5 : Bias) (b : Fin 8) (h r : Fin 16) (i : Fin 64)
    (d : Fin 1024) (hd : d.val / 64 = h.val) :
    val_main_v104 (F := Ideal) x0 x1 x3 x5 (ix4 b h r i) = fmax (scores x0 x1 x3 x5 (at3 b r i) d) := by
  unfold val_main_v104
  refine (max_last _ _ (val_main_v103 (F := Ideal) x0 x1 x3 x5) (val_main_cst_21 (F := Ideal)) b h r i).trans ?_
  unfold fmax
  refine congrArg₂ (fun z f => Finset.univ.fold max z f) ?_ (funext fun j => v103_at x0 x1 x3 x5 b h r i j d hd)
  exact ofBits_neg_inf

end Cert.ReferenceIdeal.Attn

end
-- ==== Proof.RefSoft.lean ====
/- The reference's weights and result, read at an index. -/
module

public import proofs.«01_k».proof.Proof.RefScore

@[expose] public section

set_option maxRecDepth 16384

noncomputable section

namespace Cert.ReferenceIdeal.Attn

open Cert.ReferenceIdeal Cert.ReferenceIdeal.Read Idealize.ShloMosaic Idealize.ShloMosaic.TcCoe Idealize.SL.Sem
open Cert.Softmax

/-- The maximum is taken from negative infinity twice; the second changes nothing. -/
theorem v105_at (y : S8x16x16x64.Idx) : val_main_v105 (F := Ideal) y = (⊥ : EReal) := ofBits_neg_inf

theorem v106_at (x0 x1 : Toks) (x3 : Ctx) (x5 : Bias) (b : Fin 8) (h r : Fin 16) (i : Fin 64)
    (d : Fin 1024) (hd : d.val / 64 = h.val) :
    val_main_v106 (F := Ideal) x0 x1 x3 x5 (ix4 b h r i) = fmax (scores x0 x1 x3 x5 (at3 b r i) d) := by
  refine (val_main_v106_apply (F := Ideal) x0 x1 x3 x5 (ix4 b h r i)).trans ?_
  rw [v105_at, v104_at x0 x1 x3 x5 b h r i d hd]
  exact from_bot (fmax (scores x0 x1 x3 x5 (at3 b r i) d))

/-- The weight of key `j`. -/
def weight (x0 x1 : Toks) (x3 : Ctx) (x5 : Bias) (R : Fin 8192) (d : Fin 1024) (j : Fin 768) : EReal :=
  Ideal.div (Ideal.exp (scores x0 x1 x3 x5 R d j - fmax (scores x0 x1 x3 x5 R d)))
    (∑ k, Ideal.exp (scores x0 x1 x3 x5 R d k - fmax (scores x0 x1 x3 x5 R d)))

theorem v110_at (x0 x1 : Toks) (x3 : Ctx) (x5 : Bias) (b : Fin 8) (h r : Fin 16) (i : Fin 64) (j : Fin 768)
    (d : Fin 1024) (hd : d.val / 64 = h.val) :
    val_main_v110 (F := Ideal) x0 x1 x3 x5 (ix5 b h r i j)
      = Ideal.exp (scores x0 x1 x3 x5 (at3 b r i) d j - fmax (scores x0 x1 x3 x5 (at3 b r i) d)) := by
  pointwise [val_main_v110, val_main_v109, val_main_v108, val_main_v107]
  rw [v103_at x0 x1 x3 x5 b h r i j d hd, v106_at x0 x1 x3 x5 b h r i d hd]

theorem v114_at (x0 x1 : Toks) (x3 : Ctx) (x5 : Bias) (b : Fin 8) (h r : Fin 16) (i : Fin 64) (j : Fin 768)
    (d : Fin 1024) (hd : d.val / 64 = h.val) :
    val_main_v114 (F := Ideal) x0 x1 x3 x5 (ix5 b h r i j) = weight x0 x1 x3 x5 (at3 b r i) d j := by
  pointwise [val_main_v114, val_main_v113, val_main_v112, val_main_v111, val_main_cst_23]
  simp only [fun j => v110_at x0 x1 x3 x5 b h r i j d hd]
  rfl

theorem v123_at (x0 x1 x2 : Toks) (x3 x4 : Ctx) (x5 : Bias) (R : Fin 8192) (d : Fin 1024) :
    val_main_v123 (F := Ideal) x0 x1 x2 x3 x4 x5 (ix2 R d) =
      ∑ j : Fin 512, weight x0 x1 x3 x5 R d ⟨j.val, by omega⟩ * valLoc (tok x2) R d j
      + ∑ j : Fin 256, weight x0 x1 x3 x5 R d ⟨512 + j.val, by omega⟩ * valCtx (ctx x4) R d j := by
  pointwise [val_main_v123, val_main_v122, val_main_v121, val_main_v120, val_main_v119, val_main_v118, val_main_v117, val_main_v116, val_main_v115, val_main_v9, val_main_v8]
  have hR : at3 ⟨R.val / 1024, by omega⟩ ⟨R.val / 64 % 16, by omega⟩ ⟨R.val % 64, by omega⟩ = R :=
    Fin.ext (by show R.val / 1024 * 1024 + R.val / 64 % 16 * 64 + R.val % 64 = R.val; omega)
  have hD : at2 ⟨d.val / 64, by omega⟩ ⟨d.val % 64, by omega⟩ = d :=
    Fin.ext (by show d.val / 64 * 64 + d.val % 64 = d.val; omega)
  refine congrArg₂ (· + ·) (Finset.sum_congr rfl fun j _ => ?_) (Finset.sum_congr rfl fun j _ => ?_)
  · rw [v91_at, v114_at x0 x1 x3 x5 _ _ _ _ _ d rfl, hR, hD]
    exact mul_comm _ _
  · rw [v114_at x0 x1 x3 x5 _ _ _ _ _ d rfl, hR]
    exact mul_comm _ _

/-- The reference's result is the attention, where the queries, the keys and the bias are real numbers. -/
theorem result_at (x0 x1 x2 : Toks) (x3 x4 : Ctx) (x5 : Bias) (h0 : ∀ a b, Real' (tok x0 a b)) (h1 : ∀ a b, Real' (tok x1 a b))
    (h3 : ∀ a b, Real' (ctx x3 a b)) (h5 : ∀ h a b, Real' (bia x5 h a b)) (R : Fin 8192) (d : Fin 1024) :
    val_main_v123 (F := Ideal) x0 x1 x2 x3 x4 x5 (ix2 R d)
      = attn (tok x0) (tok x1) (tok x2) (ctx x3) (ctx x4) (bia x5) R d := by
  rw [v123_at]
  unfold attn
  rw [attend_eq (by decide : 768 = 512 + 256) _ _ _ _ 0 (scoreLoc_real _ _ _ h0 h1 h5 R d) (scoreCtx_real _ _ h0 h3 R d) 0]
  unfold weight
  refine congrArg₂ (· + ·) (Finset.sum_congr rfl fun j _ => ?_) (Finset.sum_congr rfl fun j _ => ?_)
  · have e : scores x0 x1 x3 x5 R d ⟨j.val, by omega⟩ = scoreLoc (tok x0) (tok x1) (bia x5) R d j := by
      unfold scores join; rw [dif_pos j.isLt]
    rw [e]; rfl
  · have e : scores x0 x1 x3 x5 R d ⟨512 + j.val, by omega⟩ = scoreCtx (tok x0) (ctx x3) R d j := by
      unfold scores join
      rw [dif_neg (by show ¬ 512 + j.val < 512; omega)]
      exact congrArg _ (Fin.ext (by show 512 + j.val - 512 = j.val; omega))
    rw [e]; rfl

end Cert.ReferenceIdeal.Attn

end
-- ==== Proof.Finite.lean ====
/- The preconditions, decoded: every entry that they speak of is a real number. -/
module

public import proofs.«01_k».proof.Pre_finite
public import proofs.«01_k».proof.Pre_finite7
public import Idealize.ShloMosaic.Lib.ReduceAll
public import Idealize.ShloMosaic.Lib.Pointwise
public import proofs.«01_k».proof.Proof.Softmax

@[expose] public section

set_option maxRecDepth 16384

noncomputable section

namespace Cert.Finite

open Idealize.ShloMosaic Cert.Softmax

instance : Cert.Pre_finite.Facts := by constructor <;> decide

instance : Cert.Pre_finite7.Facts := by constructor <;> decide

/-- The scalar's shape. -/
abbrev Sc : Shape := ⟨0, ![]⟩

instance : Subsingleton Sc.Idx := ⟨fun _ _ => funext fun a => a.elim0⟩

theorem both {a b : BitVec 1} : IntOp.andi a b = 1#1 → a = 1#1 ∧ b = 1#1 := by
  revert a b
  decide

theorem set_bit : ∀ b : Bool, BitVec.ofBool b = 1#1 → b = true := by decide

/-- An array whose entries' absolute values are all below infinity holds real numbers. -/
theorem real_of_all {s : Shape} {axes : List (Fin s.rank)} (x : FVec Ideal s .f32) (hb : Sc.BroadcastsInDim s ![])
    (hr : s.ReducesTo axes Sc) (hu : 0 < Sc.numel) (y : Sc.Idx)
    (e : Host.reduce IntOp.andi (cmpf .olt (Host.absf x) (broadcastInDim s ![] hb (constant Sc .f32 0x7F800000#32)))
      (constantI Sc 1 1#1) hr hu y = 1#1) (i : s.Idx) : Real' (x i) := by
  have h1 := Host.reduce_andi_all _ _ hr hu y e i
  have h2 : Ideal.cmp .olt (max (x i) (-(x i))) (Ideal.ofBits .f32 0x7F800000#32) = 1#1 := h1
  rw [ofBits_inf] at h2
  exact Real'.of_abs_lt (of_decide_eq_true (set_bit _ h2))

theorem finite_real (x0 x1 x2 : FVec Ideal Cert.Pre_finite.S8192x1024 .bf16) (x3 x4 : FVec Ideal Cert.Pre_finite.S2048x1024 .bf16)
    (x5 : FVec Ideal Cert.Pre_finite.S16x15x31 .f32) (h : Cert.Pre_finite.fn (F := Ideal) x0 x1 x2 x3 x4 x5 = fun _ => 1#1) :
    (∀ i, Real' (x0 i)) ∧ (∀ i, Real' (x1 i)) ∧ (∀ i, Real' (x3 i)) ∧ ∀ i, Real' (x5 i) := by
  have e := congrFun h ix0
  unfold Cert.Pre_finite.fn Cert.Pre_finite.fn_part1 at e
  obtain ⟨e, e5⟩ := both e
  obtain ⟨e, e3⟩ := both e
  obtain ⟨e0, e1⟩ := both e
  exact ⟨real_of_all _ _ _ _ _ e0, real_of_all _ _ _ _ _ e1, real_of_all _ _ _ _ _ e3, real_of_all _ _ _ _ _ e5⟩

theorem finite7_real (x0 x1 x2 : FVec Ideal Cert.Pre_finite7.S4096x1024 .bf16)
    (h : Cert.Pre_finite7.fn (F := Ideal) x0 x1 x2 = fun _ => 1#1) : (∀ i, Real' (x0 i)) ∧ (∀ i, Real' (x1 i)) := by
  have e := congrFun h ix0
  unfold Cert.Pre_finite7.fn at e
  obtain ⟨e0, e1⟩ := both e
  exact ⟨real_of_all _ _ _ _ _ e0, real_of_all _ _ _ _ _ e1⟩

end Cert.Finite

end
-- ==== Proof.PairAttn.lean ====
/- The window attention: both runs, and the equal results. -/
module

public import proofs.«01_k».proof.Defs
public import proofs.«01_k».proof.Proof.AttnBias
public import proofs.«01_k».proof.Proof.RefSoft
public import proofs.«01_k».proof.Proof.Finite
public import proofs.«01_k».proof.Proof.Gen.ReferenceIdeal.Run
public import Idealize.ShloMosaic.Lib.Claim

@[expose] public section

set_option maxRecDepth 16384

noncomputable section

namespace Cert.Pairs

open Idealize.ShloMosaic Idealize.SL.Sem

theorem alg1 : Cert.algebraic_KernelIdeal_ReferenceIdeal_pre_finite := by
  pair_intro
  · run_from Cert.KernelIdeal.Value.run_blocks m g
  · run_from Cert.ReferenceIdeal.Value.run m' g'
    obtain ⟨a0, a1, a2, a3, a4, a5⟩ := hagree c
    obtain ⟨h0, h1, h3, h5⟩ := Cert.Finite.finite_real _ _ _ _ _ _ (hpre c)
    refine (Cert.ReferenceIdeal.Read.val_main_v123_eq m' c).trans ?_
    rw [a0, a1, a2, a3, a4, a5, Cert.KernelIdeal.Attn.arr_of_bias m c
      (fun h a b => m ((c.tc : Thread Cert.KernelIdeal.nD Cert.KernelIdeal.τ).loc Cert.KernelIdeal.main_arg5) (ix3 h a b))
      (Cert.KernelIdeal.Attn.bias_at m c)]
    funext y
    rw [show y = ix2 (y 0) (y 1) from by funext a; fin_cases a <;> rfl]
    exact Cert.ReferenceIdeal.Attn.result_at _ _ _ _ _ _ (fun a b => h0 _) (fun a b => h1 _) (fun a b => h3 _) (fun h a b => h5 _) (y 0) (y 1)

end Cert.Pairs

end
-- ==== Proof.SeqArr.lean ====
/- The attention inside a sequence: the array after the run, from its arguments. -/
module

public import proofs.«01_k».proof.Proof.Gen.Kernel7Ideal.Value
public import Idealize.ShloMosaic.Lib.Pipeline.ValueKit
public import Idealize.ShloMosaic.Lib.Pointwise
public import proofs.«01_k».proof.Proof.AttnSpec

@[expose] public section

set_option maxRecDepth 16384

noncomputable section

namespace Cert.Kernel7Ideal.Attn

open Cert.Kernel7Ideal Cert.Kernel7Ideal.Gen Idealize.ShloMosaic Idealize.ShloMosaic.TcCoe Idealize.SL.Sem
open Idealize.ShloMosaic.Pipeline (Dat)
open Cert.Softmax

/-- The two heads of a pair, as the body tells a lane's head. -/
theorem lane_lo : ∀ e : Fin 128, IntOp.cmpi .slt (BitVec.ofNat 32 e.val) 64#32 = if e.val < 64 then 1#1 else 0#1 := by
  decide +kernel

theorem lane_hi : ∀ e : Fin 128, IntOp.cmpi .sge (BitVec.ofNat 32 e.val) 64#32 = if 64 ≤ e.val then 1#1 else 0#1 := by
  decide +kernel

/-- What the body stores for a pair of heads. -/
def pairOut (q k v : Vec Ideal S256x128 .bf16) : FVec Ideal S256x128 .bf16 :=
  k0_pay47 (F := Ideal) k0_pay4 (k0_pay23 (k0_pay6 q k)) (k0_pay26 (k0_pay24 (k0_pay7 q k)) (k0_pay25 (k0_pay7 q k))) v

theorem pair_at (q k v : Vec Ideal S256x128 .bf16) (i : Fin 256) (l : Fin 128) :
    pairOut q k v (ix2 i l)
      = if l.val < 64 then
          attend1 (fun j : Fin 256 => (∑ e : Fin 64, q (ix2 i ⟨e.val, by omega⟩) * k (ix2 j ⟨e.val, by omega⟩))
            * Ideal.ofBits .f32 0x3E000000#32) (fun j => v (ix2 j l))
        else
          attend1 (fun j : Fin 256 => (∑ e : Fin 64, q (ix2 i ⟨64 + e.val, by omega⟩) * k (ix2 j ⟨64 + e.val, by omega⟩))
            * Ideal.ofBits .f32 0x3E000000#32) (fun j => v (ix2 j l)) := by
  unfold pairOut
  unfold_payloads
  pointwise []
  simp only [lane_lo, lane_hi, select_ite, sum_lo, sum_hi, ofBits_neg_inf]
  rfl

/-- The lanes of pair `p` in a block. -/
abbrev rP (p : Fin 8) : Rect S256x1024 := Rect.unit (s := S256x1024) ![0, 128 * p.val] ![256, 128]
  (by intro a; fin_cases a <;> simp [S256x1024] <;> omega)

theorem ldP (x : Vec Ideal S256x1024 .bf16) (p : Fin 8) (i : Fin 256) (l : Fin 128) (d : Fin 1024) (h : d.val = 128 * p.val + l.val) :
    View.ld x (rP p) (ix2 i l) = x (ix2 i d) :=
  View.ld_unit_apply_of x _ _ _ _ _ fun a => by fin_cases a <;> simp [ix2, h]

theorem out_tiles (x0 x1 x2 : Vec Ideal S256x1024 .bf16) (y : S256x1024.Idx) :
    out0_3 x0 x1 x2 y = View.canon (Val := Elt Ideal) (s := S256x1024) (e := .bf16) (List.ofFn fun p : Fin 8 =>
        (⟨rP ⟨7 - p.val, by omega⟩, pairOut (View.ld x0 (rP ⟨7 - p.val, by omega⟩)) (View.ld x1 (rP ⟨7 - p.val, by omega⟩))
            (View.ld x2 (rP ⟨7 - p.val, by omega⟩))⟩ : View.Piece (Elt Ideal) S256x1024 .bf16)) y := by
  unfold_out out0_3
  rfl

/-- The block's result at row `i`, lane `d`. -/
def blk (x0 x1 x2 : Vec Ideal S256x1024 .bf16) (i : Fin 256) (d : Fin 1024) : EReal :=
  attend1 (fun j : Fin 256 => (∑ e : Fin 64, x0 (ix2 i ⟨d.val / 64 * 64 + e.val, by omega⟩)
    * x1 (ix2 j ⟨d.val / 64 * 64 + e.val, by omega⟩)) * Ideal.ofBits .f32 0x3E000000#32) (fun j => x2 (ix2 j d))

theorem tile_at (x0 x1 x2 : Vec Ideal S256x1024 .bf16) (p : Fin 8) (i : Fin 256) (l : Fin 128) (d : Fin 1024)
    (h : d.val = 128 * p.val + l.val) :
    pairOut (View.ld x0 (rP p)) (View.ld x1 (rP p)) (View.ld x2 (rP p)) (ix2 i l) = blk x0 x1 x2 i d := by
  rw [pair_at]
  unfold blk
  split <;> rename_i hl <;> refine congrArg₂ attend1 (funext fun j => ?_) (funext fun j => ldP x2 p j l d h)
  all_goals
    refine congrArg (· * _) (Finset.sum_congr rfl fun e _ => ?_)
    exact congrArg₂ (· * ·) (ldP x0 p i _ _ (by simp; omega)) (ldP x1 p j _ _ (by simp; omega))

theorem out_at (x0 x1 x2 : Vec Ideal S256x1024 .bf16) (y : S256x1024.Idx) : out0_3 x0 x1 x2 y = blk x0 x1 x2 (y 0) (y 1) := by
  rw [out_tiles]
  have h1 : (y 1).val < 1024 := (y 1).isLt
  refine View.canon_ofFn_unit_eq_of_forall (S := S256x1024) (fun k : Fin 8 => ![0, 128 * (7 - k.val)]) ![256, 128] _ _ y _ ?_ ?_
  · refine ⟨⟨7 - (y 1).val / 128, by omega⟩, fun a => ?_⟩
    fin_cases a
    · exact ⟨Nat.zero_le _, by simpa using (y 0).isLt⟩
    · simp; omega
  · intro k x hx
    have e0 : (y 0).val = (x 0).val := by simpa using hx 0
    have e1 : (y 1).val = 128 * (7 - k.val) + (x 1).val := by simpa using hx 1
    have ex : x = ix2 (x 0) (x 1) := by funext a; fin_cases a <;> rfl
    have e0' : y 0 = x 0 := Fin.ext e0
    rw [ex, e0']
    exact tile_at _ _ _ _ _ _ _ e1

/-- A block's result is the attention's, when the blocks are what the arrays hold at point `t`. -/
theorem blk_attn (t : Fin 16) (x0 x1 x2 : Vec Ideal S256x1024 .bf16) (q k v : Fin 4096 → Fin 1024 → EReal)
    (h0 : ∀ (a : Fin 256) (b : Fin 1024), x0 (ix2 a b) = q ⟨t.val * 256 + a.val, by omega⟩ b)
    (h1 : ∀ (a : Fin 256) (b : Fin 1024), x1 (ix2 a b) = k ⟨t.val * 256 + a.val, by omega⟩ b)
    (h2 : ∀ (a : Fin 256) (b : Fin 1024), x2 (ix2 a b) = v ⟨t.val * 256 + a.val, by omega⟩ b)
    (i : Fin 256) (d : Fin 1024) (R : Fin 4096) (d' : Fin 1024) (hR : R.val = t.val * 256 + i.val) (hd : d'.val = d.val) :
    blk x0 x1 x2 i d = attnSeq q k v R d' := by
  obtain rfl : d' = d := Fin.ext hd
  have a4 : R = ⟨t.val * 256 + i.val, by omega⟩ := Fin.ext hR
  unfold blk attnSeq
  refine congrArg₂ attend1 (funext fun j => ?_) (funext fun j => ?_)
  · unfold scoreSeq
    refine congrArg (· * _) (Finset.sum_congr rfl fun e _ => ?_)
    rw [h0, h1]
    exact congrArg₂ (· * ·) (congrArg₂ q a4.symm rfl) (congrArg₂ k (Fin.ext (by simp only; omega)) rfl)
  · rw [h2]
    exact congrArg₂ v (Fin.ext (by simp only; omega)) rfl

variable (m : (ℓ : Loc nD τ sig) → Buf (Elt Ideal) ℓ)

/-- The blocks' places, at every grid point. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

theorem arr (c : Dev nD) : (dats m 0 c).arrAt 3 cfg0.N = (fun y : S4096x1024.Idx =>
      attnSeq (fun a b => (m ((c : Thread nD τ).loc main_arg0) : Vec Ideal S4096x1024 .bf16) (ix2 a b))
        (fun a b => (m ((c : Thread nD τ).loc main_arg1) : Vec Ideal S4096x1024 .bf16) (ix2 a b))
        (fun a b => (m ((c : Thread nD τ).loc main_arg2) : Vec Ideal S4096x1024 .bf16) (ix2 a b)) (y 0) (y 1)) := by
  refine (dats m 0 c).arrAt_eq_of_covers 3 _ (by decide +kernel) fun t hf y => ?_
  blk_simp
  rw [after0_3]
  rw [out_at]
  have ht : t.val < 16 := t.isLt
  beta_reduce
  have E0 : ((((cfg0.win 3).blk t).view.emb y) 0).val = t.val * 256 + (y 0).val := by
    blk_simp [idx t]
  have E1 : ((((cfg0.win 3).blk t).view.emb y) 1).val = (y 1).val := by
    blk_simp [idx t]
  refine blk_attn ⟨t.val, ht⟩ _ _ _ _ _ _ ?_ ?_ ?_ _ _ _ _ E0 E1
  · intro a b; blk_ext [iblk, V, idx t]
  · intro a b; blk_ext [iblk, V, idx t]
  · intro a b; blk_ext [iblk, V, idx t]

end Cert.Kernel7Ideal.Attn

end
-- ==== Proof.SeqRef.lean ====
/- The reference's attention inside a sequence, read at an index. -/
module

public import proofs.«01_k».proof.Proof.Gen.Reference7Ideal.Read
public import Idealize.ShloMosaic.Lib.Pointwise
public import proofs.«01_k».proof.Proof.AttnSpec

@[expose] public section

set_option maxRecDepth 16384

noncomputable section

namespace Cert.Reference7Ideal.Attn

open Cert.Reference7Ideal Cert.Reference7Ideal.Read Idealize.ShloMosaic Idealize.ShloMosaic.TcCoe Idealize.SL.Sem
open Cert.Softmax

/-- Queries, keys or values, as the call receives them. -/
abbrev Toks := (⟨S4096x1024, .bf16⟩ : BufTy).Contents (Elt Ideal)

def tok (x : Toks) (a : Fin 4096) (b : Fin 1024) : EReal := (x : Vec Ideal S4096x1024 .bf16) (ix2 a b)

abbrev at2 (b : Fin 16) (i : Fin 256) : Fin 4096 := ⟨b.val * 256 + i.val, by omega⟩

theorem v8_at (x0 x1 : Toks) (b h : Fin 16) (i j : Fin 256) (d : Fin 1024) (hd : d.val / 64 = h.val) :
    val_main_v8 (F := Ideal) x0 x1 (ix4 b h i j) = scoreSeq (tok x0) (tok x1) (at2 b i) d j := by
  have h1 : (b.val * 256 + i.val) / 256 = b.val := by omega
  pointwise [val_main_v8, val_main_v7, val_main_v6, val_main_v3, val_main_v2, val_main_v1, val_main_v0, val_main_cst]
  unfold scoreSeq
  simp only [h1, hd]
  rfl

theorem v9_at (x0 x1 : Toks) (b h : Fin 16) (i : Fin 256) (d : Fin 1024) (hd : d.val / 64 = h.val) :
    val_main_v9 (F := Ideal) x0 x1 (ix3 b h i) = fmax (scoreSeq (tok x0) (tok x1) (at2 b i) d) := by
  pointwise [val_main_v9, val_main_cst_0]
  simp only [fun j => v8_at x0 x1 b h i j d hd, ofBits_neg_inf]
  rfl

theorem v10_at (y : S16x16x256.Idx) : val_main_v10 (F := Ideal) y = (⊥ : EReal) := ofBits_neg_inf

theorem v11_at (x0 x1 : Toks) (b h : Fin 16) (i : Fin 256) (d : Fin 1024) (hd : d.val / 64 = h.val) :
    val_main_v11 (F := Ideal) x0 x1 (ix3 b h i) = fmax (scoreSeq (tok x0) (tok x1) (at2 b i) d) := by
  refine (val_main_v11_apply (F := Ideal) x0 x1 (ix3 b h i)).trans ?_
  rw [v10_at, v9_at x0 x1 b h i d hd]
  exact from_bot (fmax (scoreSeq (tok x0) (tok x1) (at2 b i) d))

theorem v15_at (x0 x1 : Toks) (b h : Fin 16) (i j : Fin 256) (d : Fin 1024) (hd : d.val / 64 = h.val) :
    val_main_v15 (F := Ideal) x0 x1 (ix4 b h i j)
      = Ideal.exp (scoreSeq (tok x0) (tok x1) (at2 b i) d j - fmax (scoreSeq (tok x0) (tok x1) (at2 b i) d)) := by
  pointwise [val_main_v15, val_main_v14, val_main_v13, val_main_v12]
  rw [v8_at x0 x1 b h i j d hd, v11_at x0 x1 b h i d hd]

theorem v19_at (x0 x1 : Toks) (b h : Fin 16) (i j : Fin 256) (d : Fin 1024) (hd : d.val / 64 = h.val) :
    val_main_v19 (F := Ideal) x0 x1 (ix4 b h i j)
      = Ideal.div (Ideal.exp (scoreSeq (tok x0) (tok x1) (at2 b i) d j - fmax (scoreSeq (tok x0) (tok x1) (at2 b i) d)))
          (∑ k, Ideal.exp (scoreSeq (tok x0) (tok x1) (at2 b i) d k - fmax (scoreSeq (tok x0) (tok x1) (at2 b i) d))) := by
  pointwise [val_main_v19, val_main_v18, val_main_v17, val_main_v16, val_main_cst_2]
  simp only [fun j => v15_at x0 x1 b h i j d hd]

/-- The reference's result is the attention inside the sequence, where the queries and the keys are real numbers. -/
theorem result_at (x0 x1 x2 : Toks) (h0 : ∀ a b, Real' (tok x0 a b)) (h1 : ∀ a b, Real' (tok x1 a b)) (R : Fin 4096) (d : Fin 1024) :
    val_main_v23 (F := Ideal) x0 x1 x2 (ix2 R d) = attnSeq (tok x0) (tok x1) (tok x2) R d := by
  have hR : at2 ⟨R.val / 256, by omega⟩ ⟨R.val % 256, by omega⟩ = R :=
    Fin.ext (by show R.val / 256 * 256 + R.val % 256 = R.val; omega)
  unfold attnSeq
  rw [attend1_eq _ _ 0 (scoreSeq_real _ _ h0 h1 R d)]
  pointwise [val_main_v23, val_main_v22, val_main_v21, val_main_v20, val_main_v5, val_main_v4]
  refine Finset.sum_congr rfl fun j _ => ?_
  rw [v19_at x0 x1 _ _ _ _ d rfl, hR]
  exact mul_comm _ _

end Cert.Reference7Ideal.Attn

end
-- ==== Proof.PairSeq.lean ====
/- The attention inside a sequence: both runs, and the equal results. -/
module

public import proofs.«01_k».proof.Defs
public import proofs.«01_k».proof.Proof.SeqArr
public import proofs.«01_k».proof.Proof.SeqRef
public import proofs.«01_k».proof.Proof.Finite
public import proofs.«01_k».proof.Proof.Gen.Reference7Ideal.Run
public import Idealize.ShloMosaic.Lib.Claim

@[expose] public section

set_option maxRecDepth 16384

noncomputable section

namespace Cert.Pairs

open Idealize.ShloMosaic Idealize.SL.Sem

theorem alg7 : Cert.algebraic_Kernel7Ideal_Reference7Ideal_pre_finite7 := by
  pair_intro
  · run_from Cert.Kernel7Ideal.Value.run_blocks m g
  · run_from Cert.Reference7Ideal.Value.run m' g'
    refine (Cert.Reference7Ideal.Read.val_main_v23_eq _ _ _).trans ?_
    rw [Cert.Kernel7Ideal.Attn.arr m c]
    obtain ⟨h0, h1⟩ := Cert.Finite.finite7_real _ _ _ (hpre c)
    funext y
    rw [show y = ix2 (y 0) (y 1) from by funext a; fin_cases a <;> rfl]
    exact Cert.Reference7Ideal.Attn.result_at _ _ _ (fun a b => h0 _) (fun a b => h1 _) (y 0) (y 1)

end Cert.Pairs

end
-- ==== Proof.RwkvFrame.lean ====
/- The frame of the idealised kernel of the mixing projections: what its launch does to the arrays, block by block, and that its arguments end
   as they were. The text is the generated frame's, with a larger budget for the statements over all the windows. -/
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
-- the launch has twenty-nine windows, and the statements about all of them together are long
set_option maxHeartbeats 4000000

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel9Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).1 7).trans (((dats 0 c).arrAt_in 7 rfl _).trans ((hA c 7).trans (V_main_arg5 m c))),
      ((h c).1 8).trans (((dats 0 c).arrAt_in 8 rfl _).trans ((hA c 8).trans (V_main_arg6 m c))),
      ((h c).1 9).trans (((dats 0 c).arrAt_in 9 rfl _).trans ((hA c 9).trans (V_main_arg7 m c))),
      ((h c).1 10).trans (((dats 0 c).arrAt_in 10 rfl _).trans ((hA c 10).trans (V_main_arg8 m c))),
      ((h c).1 11).trans (((dats 0 c).arrAt_in 11 rfl _).trans ((hA c 11).trans (V_main_arg9 m c))),
      ((h c).1 12).trans (((dats 0 c).arrAt_in 12 rfl _).trans ((hA c 12).trans (V_main_arg10 m c))),
      ((h c).1 13).trans (((dats 0 c).arrAt_in 13 rfl _).trans ((hA c 13).trans (V_main_arg11 m c))),
      ((h c).1 14).trans (((dats 0 c).arrAt_in 14 rfl _).trans ((hA c 14).trans (V_main_arg12 m c))),
      ((h c).1 15).trans (((dats 0 c).arrAt_in 15 rfl _).trans ((hA c 15).trans (V_main_arg13 m c))),
      ((h c).1 16).trans (((dats 0 c).arrAt_in 16 rfl _).trans ((hA c 16).trans (V_main_arg14 m c))),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

abbrev r0_0 : Rect S1x6x1024 := Rect.unit (s := S1x6x1024) ![0, 0, 0] S1x1x1024.size inb_S1x6x1024_S1x1x1024_0_0_0
abbrev r0_1 : Rect S1x6x1024 := Rect.unit (s := S1x6x1024) ![0, 1, 0] S1x1x1024.size inb_S1x6x1024_S1x1x1024_0_1_0
abbrev r0_2 : Rect S1x1024 := Rect.unit (s := S1x1024) ![0, 0] S1x1024.size inb_S1x1024_S1x1024_0_0
abbrev r0_3 : Rect S256x1024 := Rect.unit (s := S256x1024) ![0, 0] S256x1024.size inb_S256x1024_S256x1024_0_0
abbrev r0_4 : Rect S8x1024 := Rect.unit (s := S8x1024) ![7, 0] S1x1024.size inb_S8x1024_S1x1024_7_0
abbrev r0_5 : Rect S8x1024 := Rect.unit (s := S8x1024) ![0, 0] S1x1024.size inb_S8x1024_S1x1024_0_0
abbrev r0_6 : Rect S6x1024 := Rect.unit (s := S6x1024) ![0, 0] S1x1024.size inb_S6x1024_S1x1024_0_0
abbrev r0_7 : Rect S1024x1024 := Rect.unit (s := S1024x1024) ![0, 0] S1024x1024.size inb_S1024x1024_S1024x1024_0_0
abbrev r0_8 : Rect S6x1024 := Rect.unit (s := S6x1024) ![2, 0] S1x1024.size inb_S6x1024_S1x1024_2_0
abbrev r0_9 : Rect S6x1024 := Rect.unit (s := S6x1024) ![3, 0] S1x1024.size inb_S6x1024_S1x1024_3_0
abbrev r0_10 : Rect S6x1024 := Rect.unit (s := S6x1024) ![5, 0] S1x1024.size inb_S6x1024_S1x1024_5_0
abbrev r0_11 : Rect S1024x128 := Rect.unit (s := S1024x128) ![0, 0] S1024x128.size inb_S1024x128_S1024x128_0_0
abbrev r0_12 : Rect S128x1024 := Rect.unit (s := S128x1024) ![0, 0] S128x1024.size inb_S128x1024_S128x1024_0_0
abbrev r0_13 : Rect S6x1024 := Rect.unit (s := S6x1024) ![1, 0] S1x1024.size inb_S6x1024_S1x1024_1_0
abbrev r0_14 : Rect S6x1024 := Rect.unit (s := S6x1024) ![4, 0] S1x1024.size inb_S6x1024_S1x1024_4_0
abbrev r0_15 : Rect S2x1024 := Rect.unit (s := S2x1024) ![0, 0] S1x1024.size inb_S2x1024_S1x1024_0_0
abbrev r0_16 : Rect S2x1024x64 := Rect.unit (s := S2x1024x64) ![0, 0, 0] S1x1024x64.size inb_S2x1024x64_S1x1024x64_0_0_0
abbrev r0_17 : Rect S2x64x1024 := Rect.unit (s := S2x64x1024) ![0, 0, 0] S1x64x1024.size inb_S2x64x1024_S1x64x1024_0_0_0
abbrev r0_18 : Rect S2x256x1024 := Rect.unit (s := S2x256x1024) ![0, 0, 0] S1x256x1024.size inb_S2x256x1024_S1x256x1024_0_0_0
abbrev r0_19 : Rect S2x1024 := Rect.unit (s := S2x1024) ![1, 0] S1x1024.size inb_S2x1024_S1x1024_1_0
abbrev r0_20 : Rect S2x1024x64 := Rect.unit (s := S2x1024x64) ![1, 0, 0] S1x1024x64.size inb_S2x1024x64_S1x1024x64_1_0_0
abbrev r0_21 : Rect S2x64x1024 := Rect.unit (s := S2x64x1024) ![1, 0, 0] S1x64x1024.size inb_S2x64x1024_S1x64x1024_1_0_0
abbrev r0_22 : Rect S2x256x1024 := Rect.unit (s := S2x256x1024) ![1, 0, 0] S1x256x1024.size inb_S2x256x1024_S1x256x1024_1_0_0

/-! ## What the body leaves in each output window's buffer -/

/-! ### Values of the body that the stores' payloads, spelt out, would write more than once

    Each is a vector the body binds (often a part call's result), stated over the input windows' blocks and
    numbered on from the skeleton's payload functions (`k0_pay42` …, after `k0_pay41`), so that
    `out0_W` and the values after it name it instead of spelling it out (`unfold_out out0_W` opens a canon
    with them, `unfold_payloads` opens them with the payloads); the comment after each is the printed function's
    name for the value (a count appended where that name is bound again). -/

def k0_pay42 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1x1024 .f32 :=
  k0_pay2 (View.ld x4 r0_0) -- `v1`
def k0_pay43 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1x1024 .f32 :=
  k0_pay3 (View.ld x4 r0_1) -- `v3`
def k0_pay44 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1x1024 .f32 :=
  k0_pay4 (View.ld x3 r0_2) -- `v5`
def k0_pay45 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay5 (View.ld x4 r0_0) (View.ld x4 r0_1) (View.ld x3 r0_2) (View.ld x0 r0_3) -- `v24`
def k0_pay46 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1x1024 .f32 :=
  k0_pay6 (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) (k0_pay44 i x0 x1 x2 x3 x4 x5 x6 x7 x8 x9 x10 x11 x12 x13 x14 x15 x16 x17 x18 x19 x20) (Scalar.cmpi .eq (Scalar.select (Scalar.andi (Scalar.xori (Scalar.cmpi .slt (Scalar.remsi (Scalar.muli (BitVec.ofNat 32 (i 0).val) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (BitVec.ofNat 32 (i 0).val) 256#32) (Scalar.select (Scalar.cmpi .eq 1024#32 0#32) 1#32 1024#32)) 0#32)) (Scalar.addi (Scalar.remsi (Scalar.muli (BitVec.ofNat 32 (i 0).val) 256#32) (Scalar.select (Scalar.cmpi .eq 1024#32 0#32) 1#32 1024#32)) (Scalar.select (Scalar.cmpi .eq 1024#32 0#32) 1#32 1024#32)) (Scalar.remsi (Scalar.muli (BitVec.ofNat 32 (i 0).val) 256#32) (Scalar.select (Scalar.cmpi .eq 1024#32 0#32) 1#32 1024#32))) 0#32) (View.ld x1 r0_4) -- `v67`
def k0_pay47 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1x1 .f32 :=
  k0_pay7 (View.ld x2 r0_5) -- `v75`
def k0_pay48 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay8 (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) (k0_pay44 i x0 x1 x2 x3 x4 x5 x6 x7 x8 x9 x10 x11 x12 x13 x14 x15 x16 x17 x18 x19 x20) (k0_pay45 i x0 x1 x2 x3 x4 x5 x6 x7 x8 x9 x10 x11 x12 x13 x14 x15 x16 x17 x18 x19 x20) (Scalar.cmpi .eq (Scalar.select (Scalar.andi (Scalar.xori (Scalar.cmpi .slt (Scalar.remsi (Scalar.muli (Scalar.addi (BitVec.ofNat 32 (i 0).val) 1#32) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (Scalar.addi (BitVec.ofNat 32 (i 0).val) 1#32) 256#32) (Scalar.select (Scalar.cmpi .eq 1024#32 0#32) 1#32 1024#32)) 0#32)) (Scalar.addi (Scalar.remsi (Scalar.muli (Scalar.addi (BitVec.ofNat 32 (i 0).val) 1#32) 256#32) (Scalar.select (Scalar.cmpi .eq 1024#32 0#32) 1#32 1024#32)) (Scalar.select (Scalar.cmpi .eq 1024#32 0#32) 1#32 1024#32)) (Scalar.remsi (Scalar.muli (Scalar.addi (BitVec.ofNat 32 (i 0).val) 1#32) 256#32) (Scalar.select (Scalar.cmpi .eq 1024#32 0#32) 1#32 1024#32))) 0#32) (k0_pay46 i x0 x1 x2 x3 x4 x5 x6 x7 x8 x9 x10 x11 x12 x13 x14 x15 x16 x17 x18 x19 x20) (View.ld x2 r0_5) (k0_pay47 i x0 x1 x2 x3 x4 x5 x6 x7 x8 x9 x10 x11 x12 x13 x14 x15 x16 x17 x18 x19 x20) -- `v106`
def k0_pay49 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay9 (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) (k0_pay44 i x0 x1 x2 x3 x4 x5 x6 x7 x8 x9 x10 x11 x12 x13 x14 x15 x16 x17 x18 x19 x20) (k0_pay45 i x0 x1 x2 x3 x4 x5 x6 x7 x8 x9 x10 x11 x12 x13 x14 x15 x16 x17 x18 x19 x20) (Scalar.cmpi .eq (Scalar.select (Scalar.andi (Scalar.xori (Scalar.cmpi .slt (Scalar.remsi (Scalar.muli (Scalar.addi (BitVec.ofNat 32 (i 0).val) 1#32) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (Scalar.addi (BitVec.ofNat 32 (i 0).val) 1#32) 256#32) (Scalar.select (Scalar.cmpi .eq 1024#32 0#32) 1#32 1024#32)) 0#32)) (Scalar.addi (Scalar.remsi (Scalar.muli (Scalar.addi (BitVec.ofNat 32 (i 0).val) 1#32) 256#32) (Scalar.select (Scalar.cmpi .eq 1024#32 0#32) 1#32 1024#32)) (Scalar.select (Scalar.cmpi .eq 1024#32 0#32) 1#32 1024#32)) (Scalar.remsi (Scalar.muli (Scalar.addi (BitVec.ofNat 32 (i 0).val) 1#32) 256#32) (Scalar.select (Scalar.cmpi .eq 1024#32 0#32) 1#32 1024#32))) 0#32) (k0_pay46 i x0 x1 x2 x3 x4 x5 x6 x7 x8 x9 x10 x11 x12 x13 x14 x15 x16 x17 x18 x19 x20) (View.ld x2 r0_5) (k0_pay47 i x0 x1 x2 x3 x4 x5 x6 x7 x8 x9 x10 x11 x12 x13 x14 x15 x16 x17 x18 x19 x20) (View.ld x5 r0_6) (View.ld x6 r0_7) -- `v113`
def k0_pay50 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .bf16 :=
  k0_pay10 (k0_pay42 i x0 x1 x2 x3 x4 x5 x6 x7 x8 x9 x10 x11 x12 x13 x14 x15 x16 x17 x18 x19 x20) (k0_pay43 i x0 x1 x2 x3 x4 x5 x6 x7 x8 x9 x10 x11 x12 x13 x14 x15 x16 x17 x18 x19 x20) (k0_pay44 i x0 x1 x2 x3 x4 x5 x6 x7 x8 x9 x10 x11 x12 x13 x14 x15 x16 x17 x18 x19 x20) (k0_pay45 i x0 x1 x2 x3 x4 x5 x6 x7 x8 x9 x10 x11 x12 x13 x14 x15 x16 x17 x18 x19 x20) (Scalar.cmpi .eq (Scalar.select (Scalar.andi (Scalar.xori (Scalar.cmpi .slt (Scalar.remsi (Scalar.muli (Scalar.addi (BitVec.ofNat 32 (i 0).val) 1#32) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (Scalar.addi (BitVec.ofNat 32 (i 0).val) 1#32) 256#32) (Scalar.select (Scalar.cmpi .eq 1024#32 0#32) 1#32 1024#32)) 0#32)) (Scalar.addi (Scalar.remsi (Scalar.muli (Scalar.addi (BitVec.ofNat 32 (i 0).val) 1#32) 256#32) (Scalar.select (Scalar.cmpi .eq 1024#32 0#32) 1#32 1024#32)) (Scalar.select (Scalar.cmpi .eq 1024#32 0#32) 1#32 1024#32)) (Scalar.remsi (Scalar.muli (Scalar.addi (BitVec.ofNat 32 (i 0).val) 1#32) 256#32) (Scalar.select (Scalar.cmpi .eq 1024#32 0#32) 1#32 1024#32))) 0#32) (k0_pay46 i x0 x1 x2 x3 x4 x5 x6 x7 x8 x9 x10 x11 x12 x13 x14 x15 x16 x17 x18 x19 x20) (View.ld x2 r0_5) (k0_pay47 i x0 x1 x2 x3 x4 x5 x6 x7 x8 x9 x10 x11 x12 x13 x14 x15 x16 x17 x18 x19 x20) (View.ld x5 r0_8) -- `v118`
def k0_pay51 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay11 (k0_pay50 i x0 x1 x2 x3 x4 x5 x6 x7 x8 x9 x10 x11 x12 x13 x14 x15 x16 x17 x18 x19 x20) (View.ld x7 r0_7) -- `v120`
def k0_pay52 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay12 (k0_pay45 i x0 x1 x2 x3 x4 x5 x6 x7 x8 x9 x10 x11 x12 x13 x14 x15 x16 x17 x18 x19 x20) (k0_pay48 i x0 x1 x2 x3 x4 x5 x6 x7 x8 x9 x10 x11 x12 x13 x14 x15 x16 x17 x18 x19 x20) (View.ld x5 r0_9) (View.ld x8 r0_7) -- `v127`
def k0_pay53 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .bf16 :=
  k0_pay14 (k0_pay45 i x0 x1 x2 x3 x4 x5 x6 x7 x8 x9 x10 x11 x12 x13 x14 x15 x16 x17 x18 x19 x20) (k0_pay48 i x0 x1 x2 x3 x4 x5 x6 x7 x8 x9 x10 x11 x12 x13 x14 x15 x16 x17 x18 x19 x20) (View.ld x5 r0_13) -- `v143`
def k0_pay54 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .bf16 :=
  k0_pay15 (k0_pay45 i x0 x1 x2 x3 x4 x5 x6 x7 x8 x9 x10 x11 x12 x13 x14 x15 x16 x17 x18 x19 x20) (k0_pay48 i x0 x1 x2 x3 x4 x5 x6 x7 x8 x9 x10 x11 x12 x13 x14 x15 x16 x17 x18 x19 x20) (View.ld x5 r0_14) -- `v148`
def k0_pay55 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S1024x128 .bf16 :=
  k0_pay16 (View.ld x20 r0_11) -- `v150`
def k0_pay56 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : FVec F S256x1024 .f32 :=
  k0_pay21 (k0_pay55 i x0 x1 x2 x3 x4 x5 x6 x7 x8 x9 x10 x11 x12 x13 x14 x15 x16 x17 x18 x19 x20) (k0_pay17 (k0_pay50 i x0 x1 x2 x3 x4 x5 x6 x7 x8 x9 x10 x11 x12 x13 x14 x15 x16 x17 x18 x19 x20) (View.ld x7 r0_7) (View.ld x17 r0_2)) (k0_pay18 (k0_pay50 i x0 x1 x2 x3 x4 x5 x6 x7 x8 x9 x10 x11 x12 x13 x14 x15 x16 x17 x18 x19 x20) (View.ld x7 r0_7) (View.ld x17 r0_2)) (k0_pay19 (k0_pay50 i x0 x1 x2 x3 x4 x5 x6 x7 x8 x9 x10 x11 x12 x13 x14 x15 x16 x17 x18 x19 x20) (View.ld x7 r0_7) (View.ld x17 r0_2)) (k0_pay20 (k0_pay50 i x0 x1 x2 x3 x4 x5 x6 x7 x8 x9 x10 x11 x12 x13 x14 x15 x16 x17 x18 x19 x20) (View.ld x7 r0_7) (View.ld x17 r0_2)) -- `v173`

/-- Window 21's staging buffer after the body, from the input windows' blocks: its 1 store as pieces, LAST
    FIRST (Lib/Pipeline/FrameBody.lean `View.canon`; the payloads are the skeleton's and the values stated above). -/
def out0_21 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S256x1024 .f32 :=
  View.canon [⟨r0_3, k0_pay49 i x0 x1 x2 x3 x4 x5 x6 x7 x8 x9 x10 x11 x12 x13 x14 x15 x16 x17 x18 x19 x20⟩]

/-- Its stores tile the buffer (checked by evaluation), so they cover it. -/
theorem cover0_21 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S256x1024 .f32 :=
  View.canon [⟨r0_3, k0_pay52 i x0 x1 x2 x3 x4 x5 x6 x7 x8 x9 x10 x11 x12 x13 x14 x15 x16 x17 x18 x19 x20⟩]

/-- Its stores tile the buffer (checked by evaluation), so they cover it. -/
theorem cover0_22 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S256x1024 .f32 :=
  View.canon [⟨r0_3, k0_pay56 i x0 x1 x2 x3 x4 x5 x6 x7 x8 x9 x10 x11 x12 x13 x14 x15 x16 x17 x18 x19 x20⟩]

/-- Its stores tile the buffer (checked by evaluation), so they cover it. -/
theorem cover0_23 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S256x1024 .f32 :=
  View.canon [⟨r0_3, k0_pay13 (k0_pay45 i x0 x1 x2 x3 x4 x5 x6 x7 x8 x9 x10 x11 x12 x13 x14 x15 x16 x17 x18 x19 x20) (k0_pay48 i x0 x1 x2 x3 x4 x5 x6 x7 x8 x9 x10 x11 x12 x13 x14 x15 x16 x17 x18 x19 x20) (View.ld x5 r0_10) (View.ld x9 r0_11) (View.ld x10 r0_12)⟩]

/-- Its stores tile the buffer (checked by evaluation), so they cover it. -/
theorem cover0_24 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S256x1024 .f32 :=
  View.canon [⟨r0_3, k0_pay1 (k0_pay49 i x0 x1 x2 x3 x4 x5 x6 x7 x8 x9 x10 x11 x12 x13 x14 x15 x16 x17 x18 x19 x20) (k0_pay52 i x0 x1 x2 x3 x4 x5 x6 x7 x8 x9 x10 x11 x12 x13 x14 x15 x16 x17 x18 x19 x20) (k0_pay55 i x0 x1 x2 x3 x4 x5 x6 x7 x8 x9 x10 x11 x12 x13 x14 x15 x16 x17 x18 x19 x20) (k0_pay41 (k0_pay51 i x0 x1 x2 x3 x4 x5 x6 x7 x8 x9 x10 x11 x12 x13 x14 x15 x16 x17 x18 x19 x20) (k0_pay54 i x0 x1 x2 x3 x4 x5 x6 x7 x8 x9 x10 x11 x12 x13 x14 x15 x16 x17 x18 x19 x20) (k0_pay34 (k0_pay22 (F := F)) (k0_pay31 (k0_pay51 i x0 x1 x2 x3 x4 x5 x6 x7 x8 x9 x10 x11 x12 x13 x14 x15 x16 x17 x18 x19 x20) (k0_pay54 i x0 x1 x2 x3 x4 x5 x6 x7 x8 x9 x10 x11 x12 x13 x14 x15 x16 x17 x18 x19 x20) (View.ld x14 r0_15) (View.ld x15 r0_16) (View.ld x16 r0_17) (View.ld x18 r0_2))) (View.ld x14 r0_19) (View.ld x15 r0_20) (View.ld x16 r0_21) (View.ld x18 r0_2)) (View.ld x19 r0_2)⟩]

/-- Its stores tile the buffer (checked by evaluation), so they cover it. -/
theorem cover0_25 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 26's staging buffer after the body, from the input windows' blocks: its 2 stores as pieces, LAST
    FIRST (Lib/Pipeline/FrameBody.lean `View.canon`; the payloads are the skeleton's and the values stated above). -/
def out0_26 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S2x256x1024 .f32 :=
  View.canon [⟨r0_22, k0_pay36 (k0_pay35 (k0_pay53 i x0 x1 x2 x3 x4 x5 x6 x7 x8 x9 x10 x11 x12 x13 x14 x15 x16 x17 x18 x19 x20) (View.ld x11 r0_19) (View.ld x12 r0_20) (View.ld x13 r0_21))⟩,
    ⟨r0_18, k0_pay29 (k0_pay24 (k0_pay53 i x0 x1 x2 x3 x4 x5 x6 x7 x8 x9 x10 x11 x12 x13 x14 x15 x16 x17 x18 x19 x20) (View.ld x11 r0_15) (View.ld x12 r0_16) (View.ld x13 r0_17)) (k0_pay26 (k0_pay53 i x0 x1 x2 x3 x4 x5 x6 x7 x8 x9 x10 x11 x12 x13 x14 x15 x16 x17 x18 x19 x20) (View.ld x11 r0_15) (View.ld x12 r0_16) (View.ld x13 r0_17)) (k0_pay27 (k0_pay53 i x0 x1 x2 x3 x4 x5 x6 x7 x8 x9 x10 x11 x12 x13 x14 x15 x16 x17 x18 x19 x20) (View.ld x11 r0_15) (View.ld x12 r0_16) (View.ld x13 r0_17)) (k0_pay28 (k0_pay53 i x0 x1 x2 x3 x4 x5 x6 x7 x8 x9 x10 x11 x12 x13 x14 x15 x16 x17 x18 x19 x20) (View.ld x11 r0_15) (View.ld x12 r0_16) (View.ld x13 r0_17))⟩]

/-- Its stores tile the buffer (checked by evaluation), so they cover it. -/
theorem cover0_26 (p0 : Vec F S1x256x1024 .f32) (p1 : Vec F S1x256x1024 .f32) (y : S2x256x1024.Idx) :
    ∃ pc ∈ ([⟨r0_22, p0⟩, ⟨r0_18, p1⟩] : List (View.Piece (Elt F) S2x256x1024 .f32)), y ∈ pc.1.set :=
  View.cover_of_tiled [⟨r0_22, p0⟩, ⟨r0_18, p1⟩] S1x256x1024.size (by rfl) y

/-- Window 27's staging buffer after the body, from the input windows' blocks: its 2 stores as pieces, LAST
    FIRST (Lib/Pipeline/FrameBody.lean `View.canon`; the payloads are the skeleton's and the values stated above). -/
def out0_27 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S2x256x1024 .f32 :=
  View.canon [⟨r0_22, k0_pay39 (k0_pay51 i x0 x1 x2 x3 x4 x5 x6 x7 x8 x9 x10 x11 x12 x13 x14 x15 x16 x17 x18 x19 x20) (k0_pay54 i x0 x1 x2 x3 x4 x5 x6 x7 x8 x9 x10 x11 x12 x13 x14 x15 x16 x17 x18 x19 x20) (View.ld x14 r0_19) (View.ld x15 r0_20) (View.ld x16 r0_21) (View.ld x18 r0_2)⟩,
    ⟨r0_18, k0_pay32 (k0_pay51 i x0 x1 x2 x3 x4 x5 x6 x7 x8 x9 x10 x11 x12 x13 x14 x15 x16 x17 x18 x19 x20) (k0_pay54 i x0 x1 x2 x3 x4 x5 x6 x7 x8 x9 x10 x11 x12 x13 x14 x15 x16 x17 x18 x19 x20) (View.ld x14 r0_15) (View.ld x15 r0_16) (View.ld x16 r0_17) (View.ld x18 r0_2)⟩]

/-- Its stores tile the buffer (checked by evaluation), so they cover it. -/
theorem cover0_27 (p0 : Vec F S1x256x1024 .f32) (p1 : Vec F S1x256x1024 .f32) (y : S2x256x1024.Idx) :
    ∃ pc ∈ ([⟨r0_22, p0⟩, ⟨r0_18, p1⟩] : List (View.Piece (Elt F) S2x256x1024 .f32)), y ∈ pc.1.set :=
  View.cover_of_tiled [⟨r0_22, p0⟩, ⟨r0_18, p1⟩] S1x256x1024.size (by rfl) y

/-- Window 28's staging buffer after the body, from the input windows' blocks: its 2 stores as pieces, LAST
    FIRST (Lib/Pipeline/FrameBody.lean `View.canon`; the payloads are the skeleton's and the values stated above). -/
def out0_28 (i : grid0.Coords) (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) : Vec F S2x256x1024 .f32 :=
  View.canon [⟨r0_22, k0_pay40 (k0_pay54 i x0 x1 x2 x3 x4 x5 x6 x7 x8 x9 x10 x11 x12 x13 x14 x15 x16 x17 x18 x19 x20) (k0_pay56 i x0 x1 x2 x3 x4 x5 x6 x7 x8 x9 x10 x11 x12 x13 x14 x15 x16 x17 x18 x19 x20) (View.ld x14 r0_19) (View.ld x15 r0_20) (View.ld x16 r0_21)⟩,
    ⟨r0_18, k0_pay33 (k0_pay56 i x0 x1 x2 x3 x4 x5 x6 x7 x8 x9 x10 x11 x12 x13 x14 x15 x16 x17 x18 x19 x20) (k0_pay30 (k0_pay54 i x0 x1 x2 x3 x4 x5 x6 x7 x8 x9 x10 x11 x12 x13 x14 x15 x16 x17 x18 x19 x20) (View.ld x14 r0_15) (View.ld x15 r0_16) (View.ld x16 r0_17))⟩]

/-- Its stores tile the buffer (checked by evaluation), so they cover it. -/
theorem cover0_28 (p0 : Vec F S1x256x1024 .f32) (p1 : Vec F S1x256x1024 .f32) (y : S2x256x1024.Idx) :
    ∃ pc ∈ ([⟨r0_22, p0⟩, ⟨r0_18, p1⟩] : List (View.Piece (Elt F) S2x256x1024 .f32)), y ∈ pc.1.set :=
  View.cover_of_tiled [⟨r0_22, p0⟩, ⟨r0_18, p1⟩] S1x256x1024.size (by rfl) y

/-! ## The body's triple -/

set_option maxHeartbeats 3303850 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S6x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S128x1024 .bf16) (harg11 : arg11.IsWhole) (arg12 : Memref sig .tc .vmem S2x1024 .f32) (harg12 : arg12.IsWhole) (arg13 : Memref sig .tc .vmem S2x1024x64 .bf16) (harg13 : arg13.IsWhole) (arg14 : Memref sig .tc .vmem S2x64x1024 .bf16) (harg14 : arg14.IsWhole) (arg15 : Memref sig .tc .vmem S2x1024 .f32) (harg15 : arg15.IsWhole) (arg16 : Memref sig .tc .vmem S2x1024x64 .bf16) (harg16 : arg16.IsWhole) (arg17 : Memref sig .tc .vmem S2x64x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x1024 .f32) (harg26 : arg26.IsWhole) (arg27 : Memref sig .tc .vmem S2x256x1024 .f32) (harg27 : arg27.IsWhole) (arg28 : Memref sig .tc .vmem S2x256x1024 .f32) (harg28 : arg28.IsWhole) (arg29 : Memref sig .tc .vmem S2x256x1024 .f32) (harg29 : arg29.IsWhole)
    (x0 : Vec F S256x1024 .f32) (x1 : Vec F S8x1024 .f32) (x2 : Vec F S8x1024 .f32) (x3 : Vec F S1x1024 .f32) (x4 : Vec F S1x6x1024 .f32) (x5 : Vec F S6x1024 .f32) (x6 : Vec F S1024x1024 .bf16) (x7 : Vec F S1024x1024 .bf16) (x8 : Vec F S1024x1024 .bf16) (x9 : Vec F S1024x128 .bf16) (x10 : Vec F S128x1024 .bf16) (x11 : Vec F S2x1024 .f32) (x12 : Vec F S2x1024x64 .bf16) (x13 : Vec F S2x64x1024 .bf16) (x14 : Vec F S2x1024 .f32) (x15 : Vec F S2x1024x64 .bf16) (x16 : Vec F S2x64x1024 .bf16) (x17 : Vec F S1x1024 .f32) (x18 : Vec F S1x1024 .f32) (x19 : Vec F S1x1024 .f32) (x20 : Vec F S1024x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 i x0 x1 x2 x3 x4 x5 x6 x7 x8 x9 x10 x11 x12 x13 x14 x15 x16 x17 x18 x19 x20) ∗ owns (c : Thread nD τ) arg23 fullShare (out0_22 i x0 x1 x2 x3 x4 x5 x6 x7 x8 x9 x10 x11 x12 x13 x14 x15 x16 x17 x18 x19 x20) ∗ owns (c : Thread nD τ) arg24 fullShare (out0_23 i x0 x1 x2 x3 x4 x5 x6 x7 x8 x9 x10 x11 x12 x13 x14 x15 x16 x17 x18 x19 x20) ∗ owns (c : Thread nD τ) arg25 fullShare (out0_24 i x0 x1 x2 x3 x4 x5 x6 x7 x8 x9 x10 x11 x12 x13 x14 x15 x16 x17 x18 x19 x20) ∗ owns (c : Thread nD τ) arg26 fullShare (out0_25 i x0 x1 x2 x3 x4 x5 x6 x7 x8 x9 x10 x11 x12 x13 x14 x15 x16 x17 x18 x19 x20) ∗ owns (c : Thread nD τ) arg27 fullShare (out0_26 i x0 x1 x2 x3 x4 x5 x6 x7 x8 x9 x10 x11 x12 x13 x14 x15 x16 x17 x18 x19 x20) ∗ owns (c : Thread nD τ) arg28 fullShare (out0_27 i x0 x1 x2 x3 x4 x5 x6 x7 x8 x9 x10 x11 x12 x13 x14 x15 x16 x17 x18 x19 x20) ∗ owns (c : Thread nD τ) arg29 fullShare (out0_28 i x0 x1 x2 x3 x4 x5 x6 x7 x8 x9 x10 x11 x12 x13 x14 x15 x16 x17 x18 x19 x20)) -∗ K ⟨⟩))
      ⊢ wp frame (wpE (defs₀ (F := F)) Variants.none c none) E (cc0_rwkv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_rwkv_proj_eq_skeleton]; unfold cc0_rwkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _ _)).trans ?_
    rfl
  isplitl [H27]
  · iexists _; isplitr
    swap; · iexact H27
    ipureintro
    refine (View.read_writes_eq_canon _ _ _ (cover0_27 _ _)).trans ?_
    rfl
  iexists _; isplitr
  swap; · iexact H28
  ipureintro
  refine (View.read_writes_eq_canon _ _ _ (cover0_28 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_Kernel9Ideal`'s statement (Defs.lean) at any `F` — Proof.lean cites it at `Bits`:
    `theorem Cert.Proof.claim : Cert.Claim := ⟨Cert.Kernel9Ideal.Gen.facts, fun m ρ _ => Cert.Kernel9Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel9Ideal.Gen

end
-- ==== Proof.RwkvSpec.lean ====
/- What the projections of the recurrent mixer read and compute, over plain functions. -/
module

public import Idealize.ShloMosaic.Lib.Pointwise

@[expose] public section

noncomputable section

namespace Cert.Rwkv

open Idealize.ShloMosaic

/-- A row divided by its root mean square, scaled by `g` and by one plus `sc`, and shifted by `sh`. -/
def modrow (x g sc sh : Fin 1024 → EReal) (n : Fin 1024) : EReal :=
  x n * Ideal.rsqrt (Ideal.div (∑ e, x e * x e) (Ideal.ofBits .f32 0x44800000#32) + Ideal.ofBits .f32 0x358637BD#32) * g n
    * (1 + sc n) + sh n

/-- The modulated token `R`; the modulation's rows are those of its frame of 1024 tokens. -/
def hid (X : Fin 8192 → Fin 1024 → EReal) (G : Fin 1024 → EReal) (Md : Fin 8 → Fin 6 → Fin 1024 → EReal) (R : Fin 8192)
    (n : Fin 1024) : EReal :=
  modrow (X R) G (Md ⟨R.val / 1024, by omega⟩ 1) (Md ⟨R.val / 1024, by omega⟩ 0) n

/-- The token before `R` in its frame, zero at the frame's first token. -/
def before (X : Fin 8192 → Fin 1024 → EReal) (G : Fin 1024 → EReal) (Md : Fin 8 → Fin 6 → Fin 1024 → EReal) (R : Fin 8192)
    (n : Fin 1024) : EReal :=
  if R.val % 1024 = 0 then 0 else hid X G Md ⟨R.val - 1, by omega⟩ n

/-- The token after `R` in its frame, zero at the frame's last token. -/
def behind (X : Fin 8192 → Fin 1024 → EReal) (G : Fin 1024 → EReal) (Md : Fin 8 → Fin 6 → Fin 1024 → EReal) (R : Fin 8192)
    (n : Fin 1024) : EReal :=
  if h : R.val % 1024 = 1023 then 0 else hid X G Md ⟨R.val + 1, by omega⟩ n

/-- What the mean of the two neighbours adds to token `R`. -/
def drift (X : Fin 8192 → Fin 1024 → EReal) (G : Fin 1024 → EReal) (Md : Fin 8 → Fin 6 → Fin 1024 → EReal) (R : Fin 8192)
    (n : Fin 1024) : EReal :=
  Ideal.ofBits .f32 0x3F000000#32 * (before X G Md R n + behind X G Md R n) - hid X G Md R n

/-- Token `R` mixed with its neighbours by the weights `mu`. -/
def mixed (X : Fin 8192 → Fin 1024 → EReal) (G : Fin 1024 → EReal) (Md : Fin 8 → Fin 6 → Fin 1024 → EReal)
    (mu : Fin 1024 → EReal) (R : Fin 8192) (n : Fin 1024) : EReal :=
  hid X G Md R n + drift X G Md R n * mu n

/-- The logistic function, as both programs write it out. -/
def sigm (x : EReal) : EReal := Ideal.div 1 (1 + Ideal.exp (-x))

/-- Row `R` of `M` times the matrix `W`. -/
def proj {k : ℕ} (M : Fin 8192 → Fin 1024 → EReal) (W : Fin 1024 → Fin k → EReal) (R : Fin 8192) (n : Fin k) : EReal :=
  ∑ e, M R e * W e n

/-- The output gate: the logistic function of a low-rank projection, projected back. -/
def gated (M : Fin 8192 → Fin 1024 → EReal) (g1 : Fin 1024 → Fin 128 → EReal) (g2 : Fin 128 → Fin 1024 → EReal)
    (R : Fin 8192) (n : Fin 1024) : EReal :=
  ∑ k, sigm (proj M g1 R k) * g2 k n

/-- The raw decay of one direction: its bias and the tanh of a low-rank projection, projected back. -/
def rawDecay (M : Fin 8192 → Fin 1024 → EReal) (w0 : Fin 1024 → EReal) (w1 : Fin 1024 → Fin 64 → EReal)
    (w2 : Fin 64 → Fin 1024 → EReal) (R : Fin 8192) (n : Fin 1024) : EReal :=
  w0 n + ∑ k, Ideal.tanh (proj M w1 R k) * w2 k n

/-- The logarithm of one plus the exponential, away from overflow. -/
def softp (x : EReal) : EReal := max x 0 + Ideal.log1p (Ideal.exp (-max x (-x)))

/-- The logarithm of one direction's decay. -/
def decay (M : Fin 8192 → Fin 1024 → EReal) (w0 : Fin 1024 → EReal) (w1 : Fin 1024 → Fin 64 → EReal)
    (w2 : Fin 64 → Fin 1024 → EReal) (R : Fin 8192) (n : Fin 1024) : EReal :=
  -Ideal.exp (-softp (-rawDecay M w0 w1 w2 R n) - Ideal.ofBits .f32 0x3F000000#32)

/-- The learning rate of one direction. -/
def rate (M : Fin 8192 → Fin 1024 → EReal) (a0 : Fin 1024 → EReal) (a1 : Fin 1024 → Fin 64 → EReal)
    (a2 : Fin 64 → Fin 1024 → EReal) (R : Fin 8192) (n : Fin 1024) : EReal :=
  sigm (a0 n + ∑ k, proj M a1 R k * a2 k n)

/-- The key of one direction. -/
def keyed (M M' : Fin 8192 → Fin 1024 → EReal) (W : Fin 1024 → Fin 1024 → EReal) (a0 : Fin 1024 → EReal)
    (a1 : Fin 1024 → Fin 64 → EReal) (a2 : Fin 64 → Fin 1024 → EReal) (ka : Fin 1024 → EReal) (R : Fin 8192) (n : Fin 1024) :
    EReal :=
  proj M W R n * (1 + (rate M' a0 a1 a2 R n - 1) * ka n)

end Cert.Rwkv

end
-- ==== Proof.RwkvBlock.lean ====
/- The steps of the recurrent mixer's projections on one block of tokens, read at an index. -/
module

public import proofs.«01_k».proof.Proof.Gen.Kernel9Ideal.Skeleton
public import proofs.«01_k».proof.Proof.RwkvSpec
public import Idealize.ShloMosaic.Lib.Pointwise

@[expose] public section

set_option maxRecDepth 16384

noncomputable section

namespace Cert.Kernel9Ideal.Block

open Cert.Kernel9Ideal Cert.Kernel9Ideal.Gen Idealize.ShloMosaic Idealize.ShloMosaic.TcCoe Idealize.SL.Sem
open Cert.Rwkv

/-- The first and the last row of a block, as the body tells them. -/
theorem row_first : ∀ r : Fin 256, IntOp.cmpi .eq (BitVec.ofNat 32 r.val) 0#32 = if r.val = 0 then 1#1 else 0#1 := by
  decide +kernel

theorem row_last : ∀ r : Fin 256, IntOp.cmpi .eq (BitVec.ofNat 32 r.val) 255#32 = if r.val = 255 then 1#1 else 0#1 := by
  decide +kernel

abbrev Blk := FVec Ideal S256x1024 .f32
abbrev Row := FVec Ideal S1x1024 .f32

def rowOf (x : Row) (n : Fin 1024) : EReal := x (ix2 0 n)

theorem pay2_at (a : Vec Ideal S1x1x1024 .f32) (n : Fin 1024) : rowOf (k0_pay2 a) n = a (ix3 0 0 n) := by
  unfold rowOf
  pointwise [k0_pay2]

theorem pay3_at (a : Vec Ideal S1x1x1024 .f32) (n : Fin 1024) : rowOf (k0_pay3 a) n = a (ix3 0 0 n) := by
  unfold rowOf
  pointwise [k0_pay3]

theorem pay4_at (a : Row) (n : Fin 1024) : rowOf (k0_pay4 a) n = rowOf a n := by
  unfold rowOf
  pointwise [k0_pay4]

theorem pay5_at (a b : Vec Ideal S1x1x1024 .f32) (g : Row) (x : Blk) (r : Fin 256) (n : Fin 1024) :
    k0_pay5 (F := Ideal) a b g x (ix2 r n)
      = modrow (fun e => x (ix2 r e)) (rowOf g) (fun e => b (ix3 0 0 e)) (fun e => a (ix3 0 0 e)) n := by
  pointwise [k0_pay5, k0_pay2, k0_pay3, k0_pay4]
  rfl

theorem pay6_at (v1 v3 v5 : Row) (f : BitVec 1) (x : Row) (n : Fin 1024) :
    rowOf (k0_pay6 (F := Ideal) v1 v3 v5 f x) n = if f = 1#1 then 0 else modrow (rowOf x) (rowOf v5) (rowOf v3) (rowOf v1) n := by
  unfold rowOf
  pointwise [k0_pay6]
  rfl

theorem pay8_at (v1 v3 v5 : Row) (v24 : Blk) (f : BitVec 1) (v67 x : Row) (r : Fin 256) (n : Fin 1024) :
    k0_pay8 (F := Ideal) v1 v3 v5 v24 f v67 x (k0_pay7 x) (ix2 r n)
      = Ideal.ofBits .f32 0x3F000000#32
          * ((if r.val = 0 then rowOf v67 n else v24 (ix2 ⟨r.val - 1, by omega⟩ n))
            + (if h : r.val = 255 then (if f = 1#1 then 0 else modrow (rowOf x) (rowOf v5) (rowOf v3) (rowOf v1) n)
                else v24 (ix2 ⟨r.val + 1, by omega⟩ n)))
        - v24 (ix2 r n) := by
  unfold rowOf
  pointwise [k0_pay8, k0_pay7]
  rw [row_first, row_last]
  refine congrArg (fun z => _ * z - _) (congrArg₂ (· + ·) ?_ ?_)
  · by_cases h : r.val = 0
    · rw [if_pos h, if_pos h]
      rfl
    · rw [if_neg h, if_neg h]
      exact congrArg (fun z => v24 (ix2 z n)) (Fin.ext (show (r.val + 256 - 1) % 256 = r.val - 1 by omega))
  · by_cases h : r.val = 255
    · rw [if_pos h, dif_pos h]
      rfl
    · rw [if_neg h, dif_neg h]
      exact congrArg (fun z => v24 (ix2 z n)) (Fin.ext (show (r.val + 256 - 255) % 256 = r.val + 1 by omega))

/-- A block's rows mixed with their neighbours by the weights `mu`. -/
def mixBlk (h d : Blk) (mu : Row) (r : Fin 256) (e : Fin 1024) : EReal := h (ix2 r e) + d (ix2 r e) * rowOf mu e

theorem pay9_at (v1 v3 v5 : Row) (v24 : Blk) (f : BitVec 1) (v67 x : Row) (y : FVec Ideal S1x1 .f32) (mu : Row)
    (w : Vec Ideal S1024x1024 .bf16) (r : Fin 256) (n : Fin 1024) :
    k0_pay9 (F := Ideal) v1 v3 v5 v24 f v67 x y mu w (ix2 r n)
      = ∑ e, mixBlk v24 (k0_pay8 (F := Ideal) v1 v3 v5 v24 f v67 x y) mu r e * w (ix2 e n) := by
  pointwise [k0_pay9]
  rfl

theorem pay10_at (v1 v3 v5 : Row) (v24 : Blk) (f : BitVec 1) (v67 x : Row) (y : FVec Ideal S1x1 .f32) (mu : Row)
    (r : Fin 256) (n : Fin 1024) :
    k0_pay10 (F := Ideal) v1 v3 v5 v24 f v67 x y mu (ix2 r n)
      = mixBlk v24 (k0_pay8 (F := Ideal) v1 v3 v5 v24 f v67 x y) mu r n := by
  pointwise [k0_pay10]
  rfl

theorem pay11_at (k : FVec Ideal S256x1024 .bf16) (w : Vec Ideal S1024x1024 .bf16) (r : Fin 256) (n : Fin 1024) :
    k0_pay11 (F := Ideal) k w (ix2 r n) = ∑ e, k (ix2 r e) * w (ix2 e n) := by
  pointwise [k0_pay11]

theorem pay12_at (h d : Blk) (mu : Row) (w : Vec Ideal S1024x1024 .bf16) (r : Fin 256) (n : Fin 1024) :
    k0_pay12 (F := Ideal) h d mu w (ix2 r n) = ∑ e, mixBlk h d mu r e * w (ix2 e n) := by
  pointwise [k0_pay12]
  rfl

theorem pay13_at (h d : Blk) (mu : Row) (g1 : Vec Ideal S1024x128 .bf16) (g2 : Vec Ideal S128x1024 .bf16) (r : Fin 256)
    (n : Fin 1024) :
    k0_pay13 (F := Ideal) h d mu g1 g2 (ix2 r n)
      = ∑ k, sigm (∑ e, mixBlk h d mu r e * g1 (ix2 e k)) * g2 (ix2 k n) := by
  pointwise [k0_pay13]
  rfl

theorem pay14_at (h d : Blk) (mu : Row) (r : Fin 256) (n : Fin 1024) :
    k0_pay14 (F := Ideal) h d mu (ix2 r n) = mixBlk h d mu r n := by
  pointwise [k0_pay14]
  rfl

theorem pay15_at (h d : Blk) (mu : Row) (r : Fin 256) (n : Fin 1024) :
    k0_pay15 (F := Ideal) h d mu (ix2 r n) = mixBlk h d mu r n := by
  pointwise [k0_pay15]
  rfl

/-- The raw decay of a block's rows. -/
def rawBlk (x : FVec Ideal S256x1024 .bf16) (w0 : Row) (w1 : Vec Ideal S1x1024x64 .bf16) (w2 : Vec Ideal S1x64x1024 .bf16)
    (r : Fin 256) (n : Fin 1024) : EReal :=
  rowOf w0 n + ∑ k, Ideal.tanh (∑ e, x (ix2 r e) * w1 (ix3 0 e k)) * w2 (ix3 0 k n)

def decayBlk (x : FVec Ideal S256x1024 .bf16) (w0 : Row) (w1 : Vec Ideal S1x1024x64 .bf16) (w2 : Vec Ideal S1x64x1024 .bf16)
    (r : Fin 256) (n : Fin 1024) : EReal :=
  -Ideal.exp (-softp (-rawBlk x w0 w1 w2 r n) - Ideal.ofBits .f32 0x3F000000#32)

theorem decay0_at (x : FVec Ideal S256x1024 .bf16) (w0 : Row) (w1 : Vec Ideal S1x1024x64 .bf16) (w2 : Vec Ideal S1x64x1024 .bf16)
    (r : Fin 256) (n : Fin 1024) :
    k0_pay29 (F := Ideal) (k0_pay24 x w0 w1 w2) (k0_pay26 x w0 w1 w2) (k0_pay27 x w0 w1 w2) (k0_pay28 x w0 w1 w2) (ix3 0 r n)
      = decayBlk x w0 w1 w2 r n := by
  pointwise [k0_pay29, k0_pay28, k0_pay27, k0_pay26, k0_pay25, k0_pay24, k0_pay23]
  simp only [zero_sub, ne_eq, not_true_eq_false, if_false]
  rfl

theorem decay1_at (x : FVec Ideal S256x1024 .bf16) (w0 : Row) (w1 : Vec Ideal S1x1024x64 .bf16) (w2 : Vec Ideal S1x64x1024 .bf16)
    (r : Fin 256) (n : Fin 1024) :
    k0_pay36 (F := Ideal) (k0_pay35 x w0 w1 w2) (ix3 0 r n) = decayBlk x w0 w1 w2 r n := by
  pointwise [k0_pay36, k0_pay35]
  simp only [zero_sub, ne_eq, not_true_eq_false, if_false]
  rfl

def rateBlk (x : FVec Ideal S256x1024 .bf16) (a0 : Row) (a1 : Vec Ideal S1x1024x64 .bf16) (a2 : Vec Ideal S1x64x1024 .bf16)
    (r : Fin 256) (n : Fin 1024) : EReal :=
  sigm (rowOf a0 n + ∑ k, (∑ e, x (ix2 r e) * a1 (ix3 0 e k)) * a2 (ix3 0 k n))

theorem pay32_at (k : Blk) (x : FVec Ideal S256x1024 .bf16) (a0 : Row) (a1 : Vec Ideal S1x1024x64 .bf16)
    (a2 : Vec Ideal S1x64x1024 .bf16) (ka : Row) (r : Fin 256) (n : Fin 1024) :
    k0_pay32 (F := Ideal) k x a0 a1 a2 ka (ix3 0 r n)
      = k (ix2 r n) * (1 + (rateBlk x a0 a1 a2 r n - 1) * rowOf ka n) := by
  pointwise [k0_pay32, k0_pay31, k0_pay30]
  rfl

theorem pay39_at (k : Blk) (x : FVec Ideal S256x1024 .bf16) (a0 : Row) (a1 : Vec Ideal S1x1024x64 .bf16)
    (a2 : Vec Ideal S1x64x1024 .bf16) (ka : Row) (r : Fin 256) (n : Fin 1024) :
    k0_pay39 (F := Ideal) k x a0 a1 a2 ka (ix3 0 r n)
      = k (ix2 r n) * (1 + (rateBlk x a0 a1 a2 r n - 1) * rowOf ka n) := by
  pointwise [k0_pay39, k0_pay38, k0_pay37]
  rfl

end Cert.Kernel9Ideal.Block

end
-- ==== Proof.RwkvJoin.lean ====
/- The mixing projections on one block of tokens are those of the whole sequence. -/
module

public import proofs.«01_k».proof.Proof.RwkvBlock

@[expose] public section

set_option maxRecDepth 16384

noncomputable section

namespace Cert.Kernel9Ideal.Block

open Cert.Kernel9Ideal Cert.Kernel9Ideal.Gen Idealize.ShloMosaic Idealize.ShloMosaic.TcCoe Idealize.SL.Sem
open Cert.Rwkv

/-- Whether block `k` is the first of its frame, as the body tells it. -/
abbrev firstFlag (k : Fin 32) : BitVec 1 :=
  (Scalar.cmpi .eq (Scalar.select (Scalar.andi (Scalar.xori (Scalar.cmpi .slt (Scalar.remsi (Scalar.muli (BitVec.ofNat 32 k.val) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (BitVec.ofNat 32 k.val) 256#32) (Scalar.select (Scalar.cmpi .eq 1024#32 0#32) 1#32 1024#32)) 0#32)) (Scalar.addi (Scalar.remsi (Scalar.muli (BitVec.ofNat 32 k.val) 256#32) (Scalar.select (Scalar.cmpi .eq 1024#32 0#32) 1#32 1024#32)) (Scalar.select (Scalar.cmpi .eq 1024#32 0#32) 1#32 1024#32)) (Scalar.remsi (Scalar.muli (BitVec.ofNat 32 k.val) 256#32) (Scalar.select (Scalar.cmpi .eq 1024#32 0#32) 1#32 1024#32))) 0#32)

/-- Whether block `k` is the last of its frame, as the body tells it. -/
abbrev lastFlag (k : Fin 32) : BitVec 1 :=
  (Scalar.cmpi .eq (Scalar.select (Scalar.andi (Scalar.xori (Scalar.cmpi .slt (Scalar.remsi (Scalar.muli (Scalar.addi (BitVec.ofNat 32 k.val) 1#32) 256#32) (Scalar.select (Scalar.cmpi .eq 1024#32 0#32) 1#32 1024#32)) 0#32) (Scalar.cmpi .slt (Scalar.select (Scalar.cmpi .eq 1024#32 0#32) 1#32 1024#32) 0#32)) (Scalar.cmpi .ne (Scalar.remsi (Scalar.muli (Scalar.addi (BitVec.ofNat 32 k.val) 1#32) 256#32) (Scalar.select (Scalar.cmpi .eq 1024#32 0#32) 1#32 1024#32)) 0#32)) (Scalar.addi (Scalar.remsi (Scalar.muli (Scalar.addi (BitVec.ofNat 32 k.val) 1#32) 256#32) (Scalar.select (Scalar.cmpi .eq 1024#32 0#32) 1#32 1024#32)) (Scalar.select (Scalar.cmpi .eq 1024#32 0#32) 1#32 1024#32)) (Scalar.remsi (Scalar.muli (Scalar.addi (BitVec.ofNat 32 k.val) 1#32) 256#32) (Scalar.select (Scalar.cmpi .eq 1024#32 0#32) 1#32 1024#32))) 0#32)

theorem first_eq : ∀ k : Fin 32, firstFlag k = if k.val % 4 = 0 then 1#1 else 0#1 := by decide +kernel

theorem last_eq : ∀ k : Fin 32, lastFlag k = if k.val % 4 = 3 then 1#1 else 0#1 := by decide +kernel

/-- Token `r` of block `t`. -/
abbrev at_ (t : Fin 32) (r : Fin 256) : Fin 8192 := ⟨t.val * 256 + r.val, by omega⟩

variable (X : Fin 8192 → Fin 1024 → EReal) (G : Fin 1024 → EReal) (Md : Fin 8 → Fin 6 → Fin 1024 → EReal)

/-- The frame of block `t`. -/
abbrev frameOf (t : Fin 32) : Fin 8 := ⟨t.val / 4, by omega⟩

theorem hid_at (t : Fin 32) (R : Fin 8192) (n : Fin 1024) (h : R.val / 1024 = t.val / 4) :
    hid X G Md R n = modrow (X R) G (Md (frameOf t) 1) (Md (frameOf t) 0) n := by
  have e : (⟨R.val / 1024, by omega⟩ : Fin 8) = frameOf t := Fin.ext h
  unfold hid
  rw [e]

theorem hid_blk (t : Fin 32) (a b : Vec Ideal S1x1x1024 .f32) (g : Row) (x : Blk)
    (hx : ∀ (r : Fin 256) (e : Fin 1024), x (ix2 r e) = X (at_ t r) e) (hg : ∀ e, rowOf g e = G e)
    (ha : ∀ e, a (ix3 0 0 e) = Md (frameOf t) 0 e) (hb : ∀ e, b (ix3 0 0 e) = Md (frameOf t) 1 e) (r : Fin 256) (n : Fin 1024) :
    k0_pay5 (F := Ideal) a b g x (ix2 r n) = hid X G Md (at_ t r) n := by
  rw [pay5_at, hid_at X G Md t _ _ (by simp only; omega)]
  simp only [hx, ha, hb, show rowOf g = G from funext hg]

theorem drift_blk (t : Fin 32) (v1 v3 v5 : Row) (v24 : Blk) (p x : Row)
    (h24 : ∀ (r : Fin 256) (e : Fin 1024), v24 (ix2 r e) = hid X G Md (at_ t r) e)
    (h1 : ∀ e, rowOf v1 e = Md (frameOf t) 0 e) (h3 : ∀ e, rowOf v3 e = Md (frameOf t) 1 e) (h5 : ∀ e, rowOf v5 e = G e)
    (hp : ∀ R : Fin 8192, R.val + 1 = t.val * 256 → ¬ t.val % 4 = 0 → ∀ e, rowOf p e = X R e)
    (hx : ∀ R : Fin 8192, R.val = t.val * 256 + 256 → ¬ t.val % 4 = 3 → ∀ e, rowOf x e = X R e)
    (r : Fin 256) (n : Fin 1024) :
    k0_pay8 (F := Ideal) v1 v3 v5 v24 (lastFlag t) (k0_pay6 (F := Ideal) v1 v3 v5 (firstFlag t) p) x (k0_pay7 x) (ix2 r n)
      = drift X G Md (at_ t r) n := by
  have e1 : rowOf v1 = Md (frameOf t) 0 := funext h1
  have e3 : rowOf v3 = Md (frameOf t) 1 := funext h3
  have e5 : rowOf v5 = G := funext h5
  rw [pay8_at, pay6_at, first_eq, last_eq, e1, e3, e5]
  unfold drift before behind
  refine congrArg₂ (· - ·) (congrArg₂ (· * ·) rfl (congrArg₂ (· + ·) ?_ ?_)) (h24 r n)
  · by_cases h : r.val = 0
    · rw [if_pos h]
      by_cases h4 : t.val % 4 = 0
      · rw [if_pos h4, if_pos rfl, if_pos (show (t.val * 256 + r.val) % 1024 = 0 by omega)]
      · have hR : t.val * 256 + r.val - 1 + 1 = t.val * 256 := by omega
        rw [if_neg h4, if_neg (by decide), if_neg (show ¬ (t.val * 256 + r.val) % 1024 = 0 by omega),
          hid_at X G Md t _ _ (by simp only; omega)]
        rw [show rowOf p = _ from funext (hp ⟨t.val * 256 + r.val - 1, by omega⟩ hR h4)]
    · rw [if_neg h, if_neg (show ¬ (t.val * 256 + r.val) % 1024 = 0 by omega), h24]
      exact congrArg (hid X G Md · n) (Fin.ext (by simp only; omega))
  · by_cases h : r.val = 255
    · rw [dif_pos h]
      by_cases h4 : t.val % 4 = 3
      · rw [if_pos h4, if_pos rfl, dif_pos (show (t.val * 256 + r.val) % 1024 = 1023 by omega)]
      · have hR : t.val * 256 + r.val + 1 = t.val * 256 + 256 := by omega
        rw [if_neg h4, if_neg (by decide), dif_neg (show ¬ (t.val * 256 + r.val) % 1024 = 1023 by omega),
          hid_at X G Md t _ _ (by simp only; omega)]
        rw [show rowOf x = _ from funext (hx ⟨t.val * 256 + r.val + 1, by omega⟩ hR h4)]
    · rw [dif_neg h, dif_neg (show ¬ (t.val * 256 + r.val) % 1024 = 1023 by omega), h24]
      exact congrArg (hid X G Md · n) (Fin.ext (by simp only; omega))

theorem mix_blk (t : Fin 32) (v24 d : Blk) (mu : Row) (Mu : Fin 1024 → EReal)
    (h24 : ∀ (r : Fin 256) (e : Fin 1024), v24 (ix2 r e) = hid X G Md (at_ t r) e)
    (hd : ∀ (r : Fin 256) (e : Fin 1024), d (ix2 r e) = drift X G Md (at_ t r) e)
    (hmu : ∀ e, rowOf mu e = Mu e) (r : Fin 256) (n : Fin 1024) :
    mixBlk v24 d mu r n = mixed X G Md Mu (at_ t r) n := by
  unfold mixBlk mixed
  rw [h24, hd, hmu]

end Cert.Kernel9Ideal.Block

end
-- ==== Proof.RwkvOut.lean ====
/- The mixing projections' blocks, in the body's own terms: each result's block is the whole sequence's projection there. -/
module

public import proofs.«01_k».proof.Proof.RwkvFrame
public import proofs.«01_k».proof.Proof.RwkvJoin
public import Idealize.ShloMosaic.Lib.Pipeline.ValueKit

@[expose] public section

set_option maxRecDepth 16384

noncomputable section

namespace Cert.Kernel9Ideal.Block

open Cert.Kernel9Ideal Cert.Kernel9Ideal.Gen Idealize.ShloMosaic Idealize.ShloMosaic.TcCoe Idealize.SL.Sem
open Cert.Rwkv

/-- What the first six blocks hold at block `t` of the sequence: its tokens, their neighbours where the frame has them, the
    norm's scale, the frame's modulation and the mixing weights. -/
structure Tok (t : Fin 32) (X : Fin 8192 → Fin 1024 → EReal) (G : Fin 1024 → EReal) (Md : Fin 8 → Fin 6 → Fin 1024 → EReal)
    (Mu : Fin 6 → Fin 1024 → EReal) (x0 : Vec Ideal S256x1024 .f32) (x1 x2 : Vec Ideal S8x1024 .f32)
    (x3 : Vec Ideal S1x1024 .f32) (x4 : Vec Ideal S1x6x1024 .f32) (x5 : Vec Ideal S6x1024 .f32) : Prop where
  here : ∀ (r : Fin 256) (e : Fin 1024), x0 (ix2 r e) = X (at_ t r) e
  prev : ∀ R : Fin 8192, R.val + 1 = t.val * 256 → ¬ t.val % 4 = 0 → ∀ e : Fin 1024, x1 (ix2 7 e) = X R e
  next : ∀ R : Fin 8192, R.val = t.val * 256 + 256 → ¬ t.val % 4 = 3 → ∀ e : Fin 1024, x2 (ix2 0 e) = X R e
  norm : ∀ e : Fin 1024, x3 (ix2 0 e) = G e
  mods : ∀ (k : Fin 6) (e : Fin 1024), x4 (ix3 0 k e) = Md (frameOf t) k e
  mus : ∀ (k : Fin 6) (e : Fin 1024), x5 (ix2 k e) = Mu k e

theorem ldW (x : Vec Ideal S1024x1024 .bf16) (a b : Fin 1024) : View.ld x r0_7 (ix2 a b) = x (ix2 a b) :=
  View.ld_unit_apply_of x _ _ _ _ _ fun a => by fin_cases a <;> simp [ix2]

theorem ldX (x : Vec Ideal S256x1024 .f32) (a : Fin 256) (b : Fin 1024) : View.ld x r0_3 (ix2 a b) = x (ix2 a b) :=
  View.ld_unit_apply_of x _ _ _ _ _ fun a => by fin_cases a <;> simp [ix2]

theorem ldRow (x : Vec Ideal S1x1024 .f32) (b : Fin 1024) : rowOf (View.ld x r0_2) b = x (ix2 0 b) :=
  View.ld_unit_apply_of x _ _ _ _ _ fun a => by fin_cases a <;> simp [ix2]

theorem ldM0 (x : Vec Ideal S1x6x1024 .f32) (b : Fin 1024) : View.ld x r0_0 (ix3 0 0 b) = x (ix3 0 0 b) :=
  View.ld_unit_apply_of x _ _ _ _ _ fun a => by fin_cases a <;> simp [ix3]

theorem ldM1 (x : Vec Ideal S1x6x1024 .f32) (b : Fin 1024) : View.ld x r0_1 (ix3 0 0 b) = x (ix3 0 1 b) :=
  View.ld_unit_apply_of x _ _ _ _ _ fun a => by fin_cases a <;> simp [ix3]

theorem ldG1 (x : Vec Ideal S1024x128 .bf16) (a : Fin 1024) (b : Fin 128) : View.ld x r0_11 (ix2 a b) = x (ix2 a b) :=
  View.ld_unit_apply_of x _ _ _ _ _ fun a => by fin_cases a <;> simp [ix2]

theorem ldG2 (x : Vec Ideal S128x1024 .bf16) (a : Fin 128) (b : Fin 1024) : View.ld x r0_12 (ix2 a b) = x (ix2 a b) :=
  View.ld_unit_apply_of x _ _ _ _ _ fun a => by fin_cases a <;> simp [ix2]

/-- A row of a block of rows, loaded alone. -/
theorem ld_row {n : ℕ} (x : Vec Ideal (⟨2, ![n, 1024]⟩ : Shape) .f32) (k : Fin n) (inb) (b : Fin 1024) :
    rowOf (View.ld x (Rect.unit (s := (⟨2, ![n, 1024]⟩ : Shape)) ![k.val, 0] S1x1024.size inb)) b = x (ix2 k b) :=
  View.ld_unit_apply_of x _ _ _ _ _ fun a => by fin_cases a <;> simp [ix2]

variable {X : Fin 8192 → Fin 1024 → EReal} {G : Fin 1024 → EReal} {Md : Fin 8 → Fin 6 → Fin 1024 → EReal}
  {Mu : Fin 6 → Fin 1024 → EReal}
variable (i : grid0.Coords) (x0 : Vec Ideal S256x1024 .f32) (x1 : Vec Ideal S8x1024 .f32) (x2 : Vec Ideal S8x1024 .f32) (x3 : Vec Ideal S1x1024 .f32) (x4 : Vec Ideal S1x6x1024 .f32) (x5 : Vec Ideal S6x1024 .f32) (x6 : Vec Ideal S1024x1024 .bf16) (x7 : Vec Ideal S1024x1024 .bf16) (x8 : Vec Ideal S1024x1024 .bf16) (x9 : Vec Ideal S1024x128 .bf16) (x10 : Vec Ideal S128x1024 .bf16) (x11 : Vec Ideal S2x1024 .f32) (x12 : Vec Ideal S2x1024x64 .bf16) (x13 : Vec Ideal S2x64x1024 .bf16) (x14 : Vec Ideal S2x1024 .f32) (x15 : Vec Ideal S2x1024x64 .bf16) (x16 : Vec Ideal S2x64x1024 .bf16) (x17 : Vec Ideal S1x1024 .f32) (x18 : Vec Ideal S1x1024 .f32) (x19 : Vec Ideal S1x1024 .f32) (x20 : Vec Ideal S1024x128 .bf16)

theorem here_blk (h : Tok (i 0) X G Md Mu x0 x1 x2 x3 x4 x5) (r : Fin 256) (n : Fin 1024) :
    k0_pay45 (F := Ideal) i x0 x1 x2 x3 x4 x5 x6 x7 x8 x9 x10 x11 x12 x13 x14 x15 x16 x17 x18 x19 x20 (ix2 r n) = hid X G Md (at_ (i 0) r) n := by
  unfold k0_pay45
  exact hid_blk X G Md (i 0) _ _ _ _ (fun r e => (ldX _ _ _).trans (h.here r e)) (fun e => (ldRow _ _).trans (h.norm e))
    (fun e => (ldM0 _ _).trans (h.mods 0 e)) (fun e => (ldM1 _ _).trans (h.mods 1 e)) r n

theorem drift_at (h : Tok (i 0) X G Md Mu x0 x1 x2 x3 x4 x5) (r : Fin 256) (n : Fin 1024) :
    k0_pay48 (F := Ideal) i x0 x1 x2 x3 x4 x5 x6 x7 x8 x9 x10 x11 x12 x13 x14 x15 x16 x17 x18 x19 x20 (ix2 r n) = drift X G Md (at_ (i 0) r) n := by
  unfold k0_pay48 k0_pay47 k0_pay46
  exact drift_blk X G Md (i 0) _ _ _ _ _ _ (here_blk i x0 x1 x2 x3 x4 x5 x6 x7 x8 x9 x10 x11 x12 x13 x14 x15 x16 x17 x18 x19 x20 h)
    (fun e => (pay2_at _ _).trans ((ldM0 _ _).trans (h.mods 0 e))) (fun e => (pay3_at _ _).trans ((ldM1 _ _).trans (h.mods 1 e)))
    (fun e => (pay4_at _ _).trans ((ldRow _ _).trans (h.norm e)))
    (fun R hR h4 e => (ld_row _ 7 _ _).trans (h.prev R hR h4 e)) (fun R hR h4 e => (ld_row _ 0 _ _).trans (h.next R hR h4 e)) r n

/-- The block's tokens mixed with their neighbours by the weights of row `k`. -/
theorem mix_at (h : Tok (i 0) X G Md Mu x0 x1 x2 x3 x4 x5) (k : Fin 6) (mu : Row) (hmu : ∀ e, rowOf mu e = x5 (ix2 k e))
    (r : Fin 256) (n : Fin 1024) :
    mixBlk (k0_pay45 (F := Ideal) i x0 x1 x2 x3 x4 x5 x6 x7 x8 x9 x10 x11 x12 x13 x14 x15 x16 x17 x18 x19 x20) (k0_pay48 (F := Ideal) i x0 x1 x2 x3 x4 x5 x6 x7 x8 x9 x10 x11 x12 x13 x14 x15 x16 x17 x18 x19 x20) mu r n = mixed X G Md (Mu k) (at_ (i 0) r) n :=
  mix_blk X G Md (i 0) _ _ _ _ (here_blk i x0 x1 x2 x3 x4 x5 x6 x7 x8 x9 x10 x11 x12 x13 x14 x15 x16 x17 x18 x19 x20 h) (drift_at i x0 x1 x2 x3 x4 x5 x6 x7 x8 x9 x10 x11 x12 x13 x14 x15 x16 x17 x18 x19 x20 h) (fun e => (hmu e).trans (h.mus k e)) r n

theorem out21 (h : Tok (i 0) X G Md Mu x0 x1 x2 x3 x4 x5) (y : S256x1024.Idx) :
    out0_21 (F := Ideal) i x0 x1 x2 x3 x4 x5 x6 x7 x8 x9 x10 x11 x12 x13 x14 x15 x16 x17 x18 x19 x20 y
      = proj (mixed X G Md (Mu 0)) (fun a b => x6 (ix2 a b)) (at_ (i 0) (y 0)) (y 1) := by
  obtain ⟨r, n, rfl⟩ : ∃ (r : Fin 256) (n : Fin 1024), y = ix2 r n := ⟨y 0, y 1, by funext a; fin_cases a <;> rfl⟩
  unfold out0_21
  rw [View.canon_unit_zero (by funext a; fin_cases a <;> rfl)]
  unfold k0_pay49
  rw [pay9_at]
  exact Finset.sum_congr rfl fun e _ => congrArg₂ (· * ·)
    (mix_at i x0 x1 x2 x3 x4 x5 x6 x7 x8 x9 x10 x11 x12 x13 x14 x15 x16 x17 x18 x19 x20 h 0 _ (fun e => ld_row _ 0 _ _) r e) (ldW _ _ _)

theorem out22 (h : Tok (i 0) X G Md Mu x0 x1 x2 x3 x4 x5) (y : S256x1024.Idx) :
    out0_22 (F := Ideal) i x0 x1 x2 x3 x4 x5 x6 x7 x8 x9 x10 x11 x12 x13 x14 x15 x16 x17 x18 x19 x20 y
      = proj (mixed X G Md (Mu 3)) (fun a b => x8 (ix2 a b)) (at_ (i 0) (y 0)) (y 1) := by
  obtain ⟨r, n, rfl⟩ : ∃ (r : Fin 256) (n : Fin 1024), y = ix2 r n := ⟨y 0, y 1, by funext a; fin_cases a <;> rfl⟩
  unfold out0_22
  rw [View.canon_unit_zero (by funext a; fin_cases a <;> rfl)]
  unfold k0_pay52
  rw [pay12_at]
  exact Finset.sum_congr rfl fun e _ => congrArg₂ (· * ·)
    (mix_at i x0 x1 x2 x3 x4 x5 x6 x7 x8 x9 x10 x11 x12 x13 x14 x15 x16 x17 x18 x19 x20 h 3 _ (fun e => ld_row _ 3 _ _) r e) (ldW _ _ _)

theorem out24 (h : Tok (i 0) X G Md Mu x0 x1 x2 x3 x4 x5) (y : S256x1024.Idx) :
    out0_24 (F := Ideal) i x0 x1 x2 x3 x4 x5 x6 x7 x8 x9 x10 x11 x12 x13 x14 x15 x16 x17 x18 x19 x20 y
      = gated (mixed X G Md (Mu 5)) (fun a b => x9 (ix2 a b)) (fun a b => x10 (ix2 a b)) (at_ (i 0) (y 0)) (y 1) := by
  obtain ⟨r, n, rfl⟩ : ∃ (r : Fin 256) (n : Fin 1024), y = ix2 r n := ⟨y 0, y 1, by funext a; fin_cases a <;> rfl⟩
  unfold out0_24
  rw [View.canon_unit_zero (by funext a; fin_cases a <;> rfl), pay13_at]
  refine Finset.sum_congr rfl fun k _ => congrArg₂ (· * ·) (congrArg sigm ?_) (ldG2 _ _ _)
  exact Finset.sum_congr rfl fun e _ => congrArg₂ (· * ·)
    (mix_at i x0 x1 x2 x3 x4 x5 x6 x7 x8 x9 x10 x11 x12 x13 x14 x15 x16 x17 x18 x19 x20 h 5 _ (fun e => ld_row _ 5 _ _) r e) (ldG1 _ _ _)

/-- Block `j` of a pair of matrices, loaded alone. -/
theorem ld_pair {a b : ℕ} {ty} (x : Vec Ideal (⟨3, ![2, a, b]⟩ : Shape) ty) (j : Fin 2) (inb) (p : Fin a) (q : Fin b) :
    View.ld x (Rect.unit (s := (⟨3, ![2, a, b]⟩ : Shape)) ![j.val, 0, 0] (⟨3, ![1, a, b]⟩ : Shape).size inb) (ix3 0 p q) = x (ix3 j p q) :=
  View.ld_unit_apply_of x _ _ _ _ _ fun a => by fin_cases a <;> simp [ix3]

/-- The half of a result that the store numbered `k` fills. -/
abbrev half (k : Fin 2) : Rect S2x256x1024 := Rect.unit (s := S2x256x1024) ![1 - k.val, 0, 0] ![1, 256, 1024]
  (by intro a; fin_cases a <;> simp [S2x256x1024] <;> omega)

def halves (p q : FVec Ideal S1x256x1024 .f32) (k : Fin 2) : FVec Ideal S1x256x1024 .f32 := if k.val = 0 then p else q

/-- A result stored as two halves, read at an index of the half `j`. -/
theorem two_halves (p q : FVec Ideal S1x256x1024 .f32) (f : Fin 2 → Fin 256 → Fin 1024 → EReal)
    (hp : ∀ r n, p (ix3 0 r n) = f 1 r n) (hq : ∀ r n, q (ix3 0 r n) = f 0 r n) (y : S2x256x1024.Idx) :
    View.canon (Val := Elt Ideal) (s := S2x256x1024) (e := .f32) [⟨r0_22, p⟩, ⟨r0_18, q⟩] y = f (y 0) (y 1) (y 2) := by
  have e : View.canon (Val := Elt Ideal) (s := S2x256x1024) (e := .f32) [⟨r0_22, p⟩, ⟨r0_18, q⟩]
      = View.canon (Val := Elt Ideal) (s := S2x256x1024) (e := .f32) (List.ofFn fun k : Fin 2 =>
          (⟨half k, halves p q k⟩ : View.Piece (Elt Ideal) S2x256x1024 .f32)) := rfl
  rw [e]
  have h0 : (y 0).val < 2 := (y 0).isLt
  have h1 : (y 1).val < 256 := (y 1).isLt
  have h2 : (y 2).val < 1024 := (y 2).isLt
  refine View.canon_ofFn_unit_eq_of_forall (S := S2x256x1024) (fun k : Fin 2 => ![1 - k.val, 0, 0]) ![1, 256, 1024] _ _ y _ ?_ ?_
  · refine ⟨⟨1 - (y 0).val, by omega⟩, fun a => ?_⟩
    fin_cases a
    · simp; omega
    · exact ⟨Nat.zero_le _, by simpa using h1⟩
    · exact ⟨Nat.zero_le _, by simpa using h2⟩
  · intro k x hx
    have e0 : (y 0).val = 1 - k.val + (x 0).val := by simpa using hx 0
    have e1 : y 1 = x 1 := Fin.ext (by simpa using hx 1)
    have e2 : y 2 = x 2 := Fin.ext (by simpa using hx 2)
    have x0v : (x 0).val = 0 := Nat.lt_one_iff.1 (x 0).isLt
    have x0 : x 0 = (⟨0, Nat.zero_lt_one⟩ : Fin 1) := Fin.ext x0v
    have ex : x = ix3 0 (x 1) (x 2) := by
      funext a
      fin_cases a
      · exact x0
      · rfl
      · rfl
    rw [e1, e2, ex]
    match k, e0 with
    | ⟨0, _⟩, e0 => exact (hp (x 1) (x 2)).trans (congrArg (fun j => f j (x 1) (x 2)) (Fin.ext (by rw [x0v] at e0; exact e0.symm)))
    | ⟨1, _⟩, e0 => exact (hq (x 1) (x 2)).trans (congrArg (fun j => f j (x 1) (x 2)) (Fin.ext (by rw [x0v] at e0; exact e0.symm)))

/-- The block's tokens as the decay reads them. -/
theorem decay_in (h : Tok (i 0) X G Md Mu x0 x1 x2 x3 x4 x5) (r : Fin 256) (n : Fin 1024) :
    k0_pay53 (F := Ideal) i x0 x1 x2 x3 x4 x5 x6 x7 x8 x9 x10 x11 x12 x13 x14 x15 x16 x17 x18 x19 x20 (ix2 r n) = mixed X G Md (Mu 1) (at_ (i 0) r) n := by
  unfold k0_pay53
  rw [pay14_at]
  exact mix_at i x0 x1 x2 x3 x4 x5 x6 x7 x8 x9 x10 x11 x12 x13 x14 x15 x16 x17 x18 x19 x20 h 1 _ (fun e => ld_row _ 1 _ _) r n

/-- The block's tokens as the learning rate reads them. -/
theorem rate_in (h : Tok (i 0) X G Md Mu x0 x1 x2 x3 x4 x5) (r : Fin 256) (n : Fin 1024) :
    k0_pay54 (F := Ideal) i x0 x1 x2 x3 x4 x5 x6 x7 x8 x9 x10 x11 x12 x13 x14 x15 x16 x17 x18 x19 x20 (ix2 r n) = mixed X G Md (Mu 4) (at_ (i 0) r) n := by
  unfold k0_pay54
  rw [pay15_at]
  exact mix_at i x0 x1 x2 x3 x4 x5 x6 x7 x8 x9 x10 x11 x12 x13 x14 x15 x16 x17 x18 x19 x20 h 4 _ (fun e => ld_row _ 4 _ _) r n

theorem key_at (h : Tok (i 0) X G Md Mu x0 x1 x2 x3 x4 x5) (r : Fin 256) (n : Fin 1024) :
    k0_pay51 (F := Ideal) i x0 x1 x2 x3 x4 x5 x6 x7 x8 x9 x10 x11 x12 x13 x14 x15 x16 x17 x18 x19 x20 (ix2 r n) = proj (mixed X G Md (Mu 2)) (fun a b => x7 (ix2 a b)) (at_ (i 0) r) n := by
  unfold k0_pay51
  rw [pay11_at]
  refine Finset.sum_congr rfl fun e _ => congrArg₂ (· * ·) ?_ (ldW _ _ _)
  unfold k0_pay50
  rw [pay10_at]
  exact mix_at i x0 x1 x2 x3 x4 x5 x6 x7 x8 x9 x10 x11 x12 x13 x14 x15 x16 x17 x18 x19 x20 h 2 _ (fun e => ld_row _ 2 _ _) r e

theorem decay_blk (M : Fin 8192 → Fin 1024 → EReal) (t : Fin 32) (x : FVec Ideal S256x1024 .bf16) (w0 : Row)
    (w1 : Vec Ideal S1x1024x64 .bf16) (w2 : Vec Ideal S1x64x1024 .bf16) (B : Fin 1024 → EReal) (D : Fin 1024 → Fin 64 → EReal)
    (U : Fin 64 → Fin 1024 → EReal) (hx : ∀ r e, x (ix2 r e) = M (at_ t r) e) (h0 : ∀ e, rowOf w0 e = B e)
    (h1 : ∀ a b, w1 (ix3 0 a b) = D a b) (h2 : ∀ a b, w2 (ix3 0 a b) = U a b) (r : Fin 256) (n : Fin 1024) :
    decayBlk x w0 w1 w2 r n = decay M B D U (at_ t r) n := by
  unfold decayBlk rawBlk decay rawDecay proj
  simp only [hx, h0, h1, h2]

theorem rate_blk (M : Fin 8192 → Fin 1024 → EReal) (t : Fin 32) (x : FVec Ideal S256x1024 .bf16) (w0 : Row)
    (w1 : Vec Ideal S1x1024x64 .bf16) (w2 : Vec Ideal S1x64x1024 .bf16) (B : Fin 1024 → EReal) (D : Fin 1024 → Fin 64 → EReal)
    (U : Fin 64 → Fin 1024 → EReal) (hx : ∀ r e, x (ix2 r e) = M (at_ t r) e) (h0 : ∀ e, rowOf w0 e = B e)
    (h1 : ∀ a b, w1 (ix3 0 a b) = D a b) (h2 : ∀ a b, w2 (ix3 0 a b) = U a b) (r : Fin 256) (n : Fin 1024) :
    rateBlk x w0 w1 w2 r n = rate M B D U (at_ t r) n := by
  unfold rateBlk rate proj
  simp only [hx, h0, h1, h2]

theorem out26 (h : Tok (i 0) X G Md Mu x0 x1 x2 x3 x4 x5) (y : S2x256x1024.Idx) :
    out0_26 (F := Ideal) i x0 x1 x2 x3 x4 x5 x6 x7 x8 x9 x10 x11 x12 x13 x14 x15 x16 x17 x18 x19 x20 y
      = decay (mixed X G Md (Mu 1)) (fun n => x11 (ix2 (y 0) n)) (fun a b => x12 (ix3 (y 0) a b)) (fun a b => x13 (ix3 (y 0) a b))
          (at_ (i 0) (y 1)) (y 2) := by
  unfold out0_26
  refine two_halves _ _ (fun j r n => decay (mixed X G Md (Mu 1)) (fun n => x11 (ix2 j n)) (fun a b => x12 (ix3 j a b))
    (fun a b => x13 (ix3 j a b)) (at_ (i 0) r) n) (fun r n => ?_) (fun r n => ?_) y
  · rw [decay1_at]
    exact decay_blk _ (i 0) _ _ _ _ _ _ _ (decay_in i x0 x1 x2 x3 x4 x5 x6 x7 x8 x9 x10 x11 x12 x13 x14 x15 x16 x17 x18 x19 x20 h) (fun e => ld_row _ 1 _ _) (fun a b => ld_pair _ 1 _ _ _)
      (fun a b => ld_pair _ 1 _ _ _) r n
  · rw [decay0_at]
    exact decay_blk _ (i 0) _ _ _ _ _ _ _ (decay_in i x0 x1 x2 x3 x4 x5 x6 x7 x8 x9 x10 x11 x12 x13 x14 x15 x16 x17 x18 x19 x20 h) (fun e => ld_row _ 0 _ _) (fun a b => ld_pair _ 0 _ _ _)
      (fun a b => ld_pair _ 0 _ _ _) r n

theorem out27 (h : Tok (i 0) X G Md Mu x0 x1 x2 x3 x4 x5) (y : S2x256x1024.Idx) :
    out0_27 (F := Ideal) i x0 x1 x2 x3 x4 x5 x6 x7 x8 x9 x10 x11 x12 x13 x14 x15 x16 x17 x18 x19 x20 y
      = keyed (mixed X G Md (Mu 2)) (mixed X G Md (Mu 4)) (fun a b => x7 (ix2 a b)) (fun n => x14 (ix2 (y 0) n))
          (fun a b => x15 (ix3 (y 0) a b)) (fun a b => x16 (ix3 (y 0) a b)) (fun n => x18 (ix2 0 n)) (at_ (i 0) (y 1)) (y 2) := by
  unfold out0_27
  refine two_halves _ _ (fun j r n => keyed (mixed X G Md (Mu 2)) (mixed X G Md (Mu 4)) (fun a b => x7 (ix2 a b))
    (fun n => x14 (ix2 j n)) (fun a b => x15 (ix3 j a b)) (fun a b => x16 (ix3 j a b)) (fun n => x18 (ix2 0 n)) (at_ (i 0) r) n)
    (fun r n => ?_) (fun r n => ?_) y
  · rw [pay39_at]
    refine congrArg₂ (· * ·) (key_at i x0 x1 x2 x3 x4 x5 x6 x7 x8 x9 x10 x11 x12 x13 x14 x15 x16 x17 x18 x19 x20 h r n) (congrArg (1 + ·) (congrArg₂ (· * ·) (congrArg (· - 1) ?_) (ldRow _ _)))
    exact rate_blk _ (i 0) _ _ _ _ _ _ _ (rate_in i x0 x1 x2 x3 x4 x5 x6 x7 x8 x9 x10 x11 x12 x13 x14 x15 x16 x17 x18 x19 x20 h) (fun e => ld_row _ 1 _ _) (fun a b => ld_pair _ 1 _ _ _)
      (fun a b => ld_pair _ 1 _ _ _) r n
  · rw [pay32_at]
    refine congrArg₂ (· * ·) (key_at i x0 x1 x2 x3 x4 x5 x6 x7 x8 x9 x10 x11 x12 x13 x14 x15 x16 x17 x18 x19 x20 h r n) (congrArg (1 + ·) (congrArg₂ (· * ·) (congrArg (· - 1) ?_) (ldRow _ _)))
    exact rate_blk _ (i 0) _ _ _ _ _ _ _ (rate_in i x0 x1 x2 x3 x4 x5 x6 x7 x8 x9 x10 x11 x12 x13 x14 x15 x16 x17 x18 x19 x20 h) (fun e => ld_row _ 0 _ _) (fun a b => ld_pair _ 0 _ _ _)
      (fun a b => ld_pair _ 0 _ _ _) r n

end Cert.Kernel9Ideal.Block

end
-- ==== Proof.RwkvRef.lean ====
/- What the reference's projections read: the modulated tokens and their mixes with the neighbours, at an index. -/
module

public import proofs.«01_k».proof.Proof.Gen.Reference9Ideal.Read
public import proofs.«01_k».proof.Proof.RwkvSpec
public import Idealize.ShloMosaic.Lib.Pointwise

@[expose] public section

set_option maxRecDepth 16384

noncomputable section

namespace Cert.Reference9Ideal.Mix

open Cert.Reference9Ideal Cert.Reference9Ideal.Read Idealize.ShloMosaic Idealize.ShloMosaic.TcCoe Idealize.SL.Sem
open Cert.Rwkv

abbrev A0 := (⟨S8192x1024, .f32⟩ : BufTy).Contents (Elt Ideal)
abbrev A1 := (⟨S1024, .f32⟩ : BufTy).Contents (Elt Ideal)
abbrev A2 := (⟨S8x6x1024, .f32⟩ : BufTy).Contents (Elt Ideal)
abbrev A3 := (⟨S6x1024, .f32⟩ : BufTy).Contents (Elt Ideal)

def fX (x : A0) (a : Fin 8192) (b : Fin 1024) : EReal := (x : Vec Ideal S8192x1024 .f32) (ix2 a b)
def fG (x : A1) (b : Fin 1024) : EReal := (x : Vec Ideal S1024 .f32) (ix1 b)
def fM (x : A2) (a : Fin 8) (k : Fin 6) (b : Fin 1024) : EReal := (x : Vec Ideal S8x6x1024 .f32) (ix3 a k b)
def fMu (x : A3) (k : Fin 6) (b : Fin 1024) : EReal := (x : Vec Ideal S6x1024 .f32) (ix2 k b)

abbrev tok (b : Fin 8) (s : Fin 1024) : Fin 8192 := ⟨b.val * 1024 + s.val, by omega⟩

theorem v34_at (x0 : A0) (x1 : A1) (x2 : A2) (b : Fin 8) (s n : Fin 1024) :
    val_main_v34 (F := Ideal) x0 x1 x2 (ix3 b s n) = hid (fX x0) (fG x1) (fM x2) (tok b s) n := by
  have h1 : (b.val * 1024 + s.val) / 1024 = b.val := by omega
  pointwise [val_main_v34, val_main_v33, val_main_v32, val_main_v31, val_main_v30, val_main_v29, val_main_v28, val_main_cst_2, val_main_v27, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v11, val_main_v10, val_main_v9]
  unfold hid modrow
  simp only [h1]
  rfl

theorem v38_at (x0 : A0) (x1 : A1) (x2 : A2) (b : Fin 8) (s n : Fin 1024) :
    val_main_v38 (F := Ideal) x0 x1 x2 (ix3 b s n) = before (fX x0) (fG x1) (fM x2) (tok b s) n := by
  pointwise [val_main_v38, val_main_v37, val_main_v36, val_main_cst_3]
  unfold before
  by_cases hs : s.val < 1
  · rw [dif_pos hs, if_pos (show (b.val * 1024 + s.val) % 1024 = 0 by omega)]
  · rw [dif_neg hs, if_neg (show ¬ (b.val * 1024 + s.val) % 1024 = 0 by omega), v34_at]
    exact congrArg (hid _ _ _ · n) (Fin.ext (show b.val * 1024 + (s.val - 1) = b.val * 1024 + s.val - 1 by omega))

theorem v40_at (x0 : A0) (x1 : A1) (x2 : A2) (b : Fin 8) (s n : Fin 1024) :
    val_main_v40 (F := Ideal) x0 x1 x2 (ix3 b s n) = behind (fX x0) (fG x1) (fM x2) (tok b s) n := by
  pointwise [val_main_v40, val_main_v39, val_main_v36, val_main_cst_3]
  unfold behind
  by_cases hs : s.val < 1023
  · rw [dif_pos hs, dif_neg (show ¬ (b.val * 1024 + s.val) % 1024 = 1023 by omega), v34_at]
    exact congrArg (hid _ _ _ · n) (Fin.ext (show b.val * 1024 + (1 + s.val) = b.val * 1024 + s.val + 1 by omega))
  · rw [dif_neg hs, dif_pos (show (b.val * 1024 + s.val) % 1024 = 1023 by omega)]

theorem v44_at (x0 : A0) (x1 : A1) (x2 : A2) (b : Fin 8) (s n : Fin 1024) :
    val_main_v44 (F := Ideal) x0 x1 x2 (ix3 b s n) = drift (fX x0) (fG x1) (fM x2) (tok b s) n := by
  pointwise [val_main_v44, val_main_v43, val_main_v42, val_main_cst_4, val_main_v41]
  rw [v38_at, v40_at, v34_at]
  rfl

theorem v50_at (x0 : A0) (x1 : A1) (x2 : A2) (x3 : A3) (b : Fin 8) (s n : Fin 1024) :
    val_main_v50 (F := Ideal) x0 x1 x2 x3 (ix3 b s n) = mixed (fX x0) (fG x1) (fM x2) (fMu x3 0) (tok b s) n := by
  pointwise [val_main_v50, val_main_v49, val_main_v48, val_main_v47, val_main_v46, val_main_v45]
  rw [v44_at, v34_at]
  rfl

theorem v56_at (x0 : A0) (x1 : A1) (x2 : A2) (x3 : A3) (b : Fin 8) (s n : Fin 1024) :
    val_main_v56 (F := Ideal) x0 x1 x2 x3 (ix3 b s n) = mixed (fX x0) (fG x1) (fM x2) (fMu x3 1) (tok b s) n := by
  pointwise [val_main_v56, val_main_v55, val_main_v54, val_main_v53, val_main_v52, val_main_v51]
  rw [v44_at, v34_at]
  rfl

theorem v62_at (x0 : A0) (x1 : A1) (x2 : A2) (x3 : A3) (b : Fin 8) (s n : Fin 1024) :
    val_main_v62 (F := Ideal) x0 x1 x2 x3 (ix3 b s n) = mixed (fX x0) (fG x1) (fM x2) (fMu x3 2) (tok b s) n := by
  pointwise [val_main_v62, val_main_v61, val_main_v60, val_main_v59, val_main_v58, val_main_v57]
  rw [v44_at, v34_at]
  rfl

theorem v68_at (x0 : A0) (x1 : A1) (x2 : A2) (x3 : A3) (b : Fin 8) (s n : Fin 1024) :
    val_main_v68 (F := Ideal) x0 x1 x2 x3 (ix3 b s n) = mixed (fX x0) (fG x1) (fM x2) (fMu x3 3) (tok b s) n := by
  pointwise [val_main_v68, val_main_v67, val_main_v66, val_main_v65, val_main_v64, val_main_v63]
  rw [v44_at, v34_at]
  rfl

theorem v74_at (x0 : A0) (x1 : A1) (x2 : A2) (x3 : A3) (b : Fin 8) (s n : Fin 1024) :
    val_main_v74 (F := Ideal) x0 x1 x2 x3 (ix3 b s n) = mixed (fX x0) (fG x1) (fM x2) (fMu x3 4) (tok b s) n := by
  pointwise [val_main_v74, val_main_v73, val_main_v72, val_main_v71, val_main_v70, val_main_v69]
  rw [v44_at, v34_at]
  rfl

theorem v80_at (x0 : A0) (x1 : A1) (x2 : A2) (x3 : A3) (b : Fin 8) (s n : Fin 1024) :
    val_main_v80 (F := Ideal) x0 x1 x2 x3 (ix3 b s n) = mixed (fX x0) (fG x1) (fM x2) (fMu x3 5) (tok b s) n := by
  pointwise [val_main_v80, val_main_v79, val_main_v78, val_main_v77, val_main_v76, val_main_v75]
  rw [v44_at, v34_at]
  rfl

abbrev AW := (⟨S1024x1024, .bf16⟩ : BufTy).Contents (Elt Ideal)
abbrev AG1 := (⟨S1024x128, .bf16⟩ : BufTy).Contents (Elt Ideal)
abbrev AG2 := (⟨S128x1024, .bf16⟩ : BufTy).Contents (Elt Ideal)
abbrev AB := (⟨S2x1024, .f32⟩ : BufTy).Contents (Elt Ideal)
abbrev AD := (⟨S2x1024x64, .bf16⟩ : BufTy).Contents (Elt Ideal)
abbrev AU := (⟨S2x64x1024, .bf16⟩ : BufTy).Contents (Elt Ideal)

def fW (x : AW) (a b : Fin 1024) : EReal := (x : Vec Ideal S1024x1024 .bf16) (ix2 a b)
def fG1 (x : AG1) (a : Fin 1024) (b : Fin 128) : EReal := (x : Vec Ideal S1024x128 .bf16) (ix2 a b)
def fG2 (x : AG2) (a : Fin 128) (b : Fin 1024) : EReal := (x : Vec Ideal S128x1024 .bf16) (ix2 a b)
def fB (x : AB) (j : Fin 2) (b : Fin 1024) : EReal := (x : Vec Ideal S2x1024 .f32) (ix2 j b)
def fD (x : AD) (j : Fin 2) (a : Fin 1024) (b : Fin 64) : EReal := (x : Vec Ideal S2x1024x64 .bf16) (ix3 j a b)
def fU (x : AU) (j : Fin 2) (a : Fin 64) (b : Fin 1024) : EReal := (x : Vec Ideal S2x64x1024 .bf16) (ix3 j a b)

theorem tok_split (R : Fin 8192) : tok ⟨R.val / 1024, by omega⟩ ⟨R.val % 1024, by omega⟩ = R :=
  Fin.ext (show R.val / 1024 * 1024 + R.val % 1024 = R.val by omega)

theorem v128_at (x0 : A0) (x1 : A1) (x2 : A2) (x3 : A3) (x4 : AW) (R : Fin 8192) (n : Fin 1024) :
    val_main_v128 (F := Ideal) x0 x1 x2 x3 x4 (ix2 R n) = proj (mixed (fX x0) (fG x1) (fM x2) (fMu x3 0)) (fW x4) R n := by
  pointwise [val_main_v128, val_main_v81, val_main_v0]
  simp only [v50_at, tok_split]
  rfl

theorem v129_at (x0 : A0) (x1 : A1) (x2 : A2) (x3 : A3) (x6 : AW) (R : Fin 8192) (n : Fin 1024) :
    val_main_v129 (F := Ideal) x0 x1 x2 x3 x6 (ix2 R n) = proj (mixed (fX x0) (fG x1) (fM x2) (fMu x3 3)) (fW x6) R n := by
  pointwise [val_main_v129, val_main_v83, val_main_v2]
  simp only [v68_at, tok_split]
  rfl

theorem v130_at (x0 : A0) (x1 : A1) (x2 : A2) (x3 : A3) (x7 : AG1) (x8 : AG2) (R : Fin 8192) (n : Fin 1024) :
    val_main_v130 (F := Ideal) x0 x1 x2 x3 x7 x8 (ix2 R n)
      = gated (mixed (fX x0) (fG x1) (fM x2) (fMu x3 5)) (fG1 x7) (fG2 x8) R n := by
  pointwise [val_main_v130, val_main_v91, val_main_v90, val_main_v89, val_main_cst_6, val_main_v88, val_main_v87, val_main_cst_5, val_main_v86, val_main_v85, val_main_v84, val_main_v3, val_main_v4]
  simp only [v80_at, tok_split]
  rfl

theorem low_comm (x : AD) (j : Fin 2) (a : Fin 1024) (b : Fin 64) (z : EReal) :
    ((x : Vec Ideal S2x1024x64 .bf16) (ix3 j a b) : EReal) * z = z * (x : Vec Ideal S2x1024x64 .bf16) (ix3 j a b) :=
  mul_comm _ _

theorem v131_at (x0 : A0) (x1 : A1) (x2 : A2) (x3 : A3) (x9 : AB) (x10 : AD) (x11 : AU) (j : Fin 2) (R : Fin 8192) (n : Fin 1024) :
    val_main_v131 (F := Ideal) x0 x1 x2 x3 x9 x10 x11 (ix3 j R n)
      = decay (mixed (fX x0) (fG x1) (fM x2) (fMu x3 1)) (fB x9 j) (fD x10 j) (fU x11 j) R n := by
  pointwise [val_main_v131, val_main_v105, val_main_v104, val_main_v103, val_main_v102, val_main_cst_7, val_main_v101, val_main_v100, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v99, val_main_v98, val_main_v97, val_main_v96, val_main_v95, val_main_v94, val_main_v93, val_main_v92, val_main_v5, val_main_v6]
  simp only [v56_at, tok_split, low_comm x10 j, ne_eq, not_true_eq_false, if_false]
  rfl

theorem v132_at (x0 : A0) (x1 : A1) (x2 : A2) (x3 : A3) (x5 : AW) (x12 : AB) (x13 : AD) (x14 : AU) (x16 : A1) (j : Fin 2)
    (R : Fin 8192) (n : Fin 1024) :
    val_main_v132 (F := Ideal) x0 x1 x2 x3 x5 x12 x13 x14 x16 (ix3 j R n)
      = keyed (mixed (fX x0) (fG x1) (fM x2) (fMu x3 2)) (mixed (fX x0) (fG x1) (fM x2) (fMu x3 4)) (fW x5) (fB x12 j) (fD x13 j)
          (fU x14 j) (fG x16) R n := by
  pointwise [val_main_v132, val_main_v127, val_main_v126, val_main_v125, val_main_v124, val_main_v123, val_main_cst_11, val_main_v122, val_main_v121, val_main_v120, val_main_v119, val_main_v118, val_main_cst_10, val_main_v117, val_main_v116, val_main_cst_9, val_main_v115, val_main_v114, val_main_cst_8, val_main_v113, val_main_v112, val_main_v111, val_main_v110, val_main_v109, val_main_v108, val_main_v107, val_main_v106, val_main_v82, val_main_v1, val_main_v7, val_main_v8]
  simp only [v62_at, v74_at, tok_split, low_comm x13 j]
  rfl

end Cert.Reference9Ideal.Mix

end
-- ==== Proof.RwkvArr.lean ====
/- The mixing projections' result arrays after the run are the reference's results. -/
module

public import proofs.«01_k».proof.Proof.RwkvOut
public import proofs.«01_k».proof.Proof.RwkvRef
public import Idealize.ShloMosaic.Lib.StableHlo.ReadAt

@[expose] public section

set_option maxRecDepth 16384

noncomputable section

namespace Cert.Kernel9Ideal.Final

open Cert.Kernel9Ideal Cert.Kernel9Ideal.Gen Idealize.ShloMosaic Idealize.ShloMosaic.TcCoe Idealize.SL.Sem
open Idealize.ShloMosaic.Pipeline (Dat)
open Cert.Rwkv Cert.Kernel9Ideal.Block Cert.Reference9Ideal.Mix

variable (m : (ℓ : Loc nD τ sig) → Buf (Elt Ideal) ℓ)

/-- The places of the blocks that move, at every grid point. -/
theorem idx : ∀ t : Fin cfg0.N, win0_0.index t = ![t.val, 0] ∧ win0_1.index t = ![t.val * 32 - 1, 0]
    ∧ win0_2.index t = ![min (t.val * 32 + 32) 1023, 0] ∧ win0_4.index t = ![t.val / 4, 0, 0] :=
  (by decide +kernel : ∀ t : Fin grid0.N, _)

/-- The places of the blocks that stay. -/
theorem idxw : ∀ t : Fin cfg0.N, win0_3.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![0, 0, 0]
    ∧ win0_14.index t = ![0, 0] ∧ win0_15.index t = ![0, 0, 0] ∧ win0_16.index t = ![0, 0, 0] ∧ win0_18.index t = ![0, 0] :=
  (by decide +kernel : ∀ t : Fin grid0.N, _)

/-- The places of the results' blocks. -/
theorem idxo : ∀ t : Fin cfg0.N, win0_21.index t = ![t.val, 0] ∧ win0_22.index t = ![t.val, 0]
    ∧ win0_24.index t = ![t.val, 0] ∧ win0_26.index t = ![0, t.val, 0] ∧ win0_27.index t = ![0, t.val, 0] :=
  (by decide +kernel : ∀ t : Fin grid0.N, _)

theorem coord : ∀ t : Fin cfg0.N, (grid0.coords t 0).val = t.val := (by decide +kernel : ∀ t : Fin grid0.N, _)

/-- The argument arrays of core `c`. -/
abbrev arg (c : Dev nD) (b : Ref sig .tc) : Buf (Elt Ideal) ((c : Thread nD τ).loc b) := m ((c : Thread nD τ).loc b)

/-- The norm's scale and the keys' weights as rows. -/
theorem scale_at (c : Dev nD) (e : Fin 1024) :
    (V m c main_v3 : Vec Ideal S1x1024 .f32) (ix2 0 e) = (m ((c : Thread nD τ).loc main_arg1) : Vec Ideal S1024 .f32) (ix1 e) := by
  unfold V
  after_reads_at

theorem keyw_at (c : Dev nD) (e : Fin 1024) :
    (V m c main_v1 : Vec Ideal S1x1024 .f32) (ix2 0 e) = (m ((c : Thread nD τ).loc main_arg16) : Vec Ideal S1024 .f32) (ix1 e) := by
  unfold V
  after_reads_at

theorem tok (c : Dev nD) (t : Fin cfg0.N) :
    Tok (grid0.coords t 0) (fX (arg m c main_arg0)) (fG (arg m c main_arg1)) (fM (arg m c main_arg2)) (fMu (arg m c main_arg3))
      (iblk m c 0 t) (iblk m c 1 t) (iblk m c 2 t) (iblk m c 3 t) (iblk m c 4 t) (iblk m c 5 t) := by
  have hc := coord t
  have ht : t.val < 32 := t.isLt
  refine ⟨fun r e => ?_, fun R hR h4 e => ?_, fun R hR h4 e => ?_, fun e => ?_, fun k e => ?_, fun k e => ?_⟩
  · unfold fX arg at_
    simp only [hc]
    blk_ext [iblk, V, idx t]
  · rw [hc] at hR h4
    have e7 : (t.val * 32 - 1) * 8 + 7 = R.val := by omega
    unfold fX arg
    blk_ext [iblk, V, idx t, e7]
  · rw [hc] at hR h4
    have e0 : min (t.val * 32 + 32) 1023 * 8 = R.val := by omega
    unfold fX arg
    blk_ext [iblk, V, idx t, e0]
  · unfold fG arg
    rw [← scale_at m c e]
    blk_ext [iblk, idxw t]
  · unfold fM arg frameOf
    simp only [hc]
    blk_ext [iblk, V, idx t]
  · unfold fMu arg
    blk_ext [iblk, V, idxw t]

/-- The blocks that stay hold the weights. -/
theorem w6 (c : Dev nD) (t : Fin cfg0.N) : (fun a b => iblk m c 6 t (ix2 a b)) = fW (arg m c main_arg4) := by
  funext a b; unfold fW arg; blk_ext [iblk, V, idxw t]

theorem w7 (c : Dev nD) (t : Fin cfg0.N) : (fun a b => iblk m c 7 t (ix2 a b)) = fW (arg m c main_arg5) := by
  funext a b; unfold fW arg; blk_ext [iblk, V, idxw t]

theorem w8 (c : Dev nD) (t : Fin cfg0.N) : (fun a b => iblk m c 8 t (ix2 a b)) = fW (arg m c main_arg6) := by
  funext a b; unfold fW arg; blk_ext [iblk, V, idxw t]

theorem w9 (c : Dev nD) (t : Fin cfg0.N) : (fun a b => iblk m c 9 t (ix2 a b)) = fG1 (arg m c main_arg7) := by
  funext a b; unfold fG1 arg; blk_ext [iblk, V, idxw t]

theorem w10 (c : Dev nD) (t : Fin cfg0.N) : (fun a b => iblk m c 10 t (ix2 a b)) = fG2 (arg m c main_arg8) := by
  funext a b; unfold fG2 arg; blk_ext [iblk, V, idxw t]

theorem w11 (c : Dev nD) (t : Fin cfg0.N) (j : Fin 2) : (fun n => iblk m c 11 t (ix2 j n)) = fB (arg m c main_arg9) j := by
  funext n; unfold fB arg; blk_ext [iblk, V, idxw t]

theorem w12 (c : Dev nD) (t : Fin cfg0.N) (j : Fin 2) : (fun a b => iblk m c 12 t (ix3 j a b)) = fD (arg m c main_arg10) j := by
  funext a b; unfold fD arg; blk_ext [iblk, V, idxw t]

theorem w13 (c : Dev nD) (t : Fin cfg0.N) (j : Fin 2) : (fun a b => iblk m c 13 t (ix3 j a b)) = fU (arg m c main_arg11) j := by
  funext a b; unfold fU arg; blk_ext [iblk, V, idxw t]

theorem w14 (c : Dev nD) (t : Fin cfg0.N) (j : Fin 2) : (fun n => iblk m c 14 t (ix2 j n)) = fB (arg m c main_arg12) j := by
  funext n; unfold fB arg; blk_ext [iblk, V, idxw t]

theorem w15 (c : Dev nD) (t : Fin cfg0.N) (j : Fin 2) : (fun a b => iblk m c 15 t (ix3 j a b)) = fD (arg m c main_arg13) j := by
  funext a b; unfold fD arg; blk_ext [iblk, V, idxw t]

theorem w16 (c : Dev nD) (t : Fin cfg0.N) (j : Fin 2) : (fun a b => iblk m c 16 t (ix3 j a b)) = fU (arg m c main_arg14) j := by
  funext a b; unfold fU arg; blk_ext [iblk, V, idxw t]

theorem w18 (c : Dev nD) (t : Fin cfg0.N) : (fun n => iblk m c 18 t (ix2 0 n)) = fG (arg m c main_arg16) := by
  funext n; unfold fG arg; rw [← keyw_at m c n]; blk_ext [iblk, idxw t]

/-- Where a result's block lies in its array. -/
theorem place {t : Fin cfg0.N} {R : Fin 8192} {n n' : Fin 1024} {r : Fin 256} (f : Fin 8192 → Fin 1024 → EReal)
    (hR : R.val = t.val * 256 + r.val) (hn : n'.val = n.val) : f (at_ (grid0.coords t 0) r) n = f R n' := by
  obtain rfl : n' = n := Fin.ext hn
  exact congrArg (f · n') (Fin.ext (by rw [hR]; exact congrArg (· * 256 + r.val) (coord t)))

/-- A function of the token and the lane, or of the direction too, is its values at the three or two coordinates. -/
theorem ext2 {g f : S8192x1024.Idx → EReal} (h : ∀ (r : Fin 8192) (n : Fin 1024), g (ix2 r n) = f (ix2 r n)) : g = f := by
  funext y
  obtain ⟨r, n, rfl⟩ : ∃ (r : Fin 8192) (n : Fin 1024), y = ix2 r n := ⟨y 0, y 1, by funext a; fin_cases a <;> rfl⟩
  exact h r n

theorem ext3 {g f : S2x8192x1024.Idx → EReal} (h : ∀ (j : Fin 2) (r : Fin 8192) (n : Fin 1024), g (ix3 j r n) = f (ix3 j r n)) :
    g = f := by
  funext y
  obtain ⟨j, r, n, rfl⟩ : ∃ (j : Fin 2) (r : Fin 8192) (n : Fin 1024), y = ix3 j r n :=
    ⟨y 0, y 1, y 2, by funext a; fin_cases a <;> rfl⟩
  exact h j r n

theorem arr21 (c : Dev nD) : (dats m 0 c).arrAt 21 cfg0.N
    = Cert.Reference9Ideal.Read.val_main_v128 (F := Ideal) (arg m c main_arg0) (arg m c main_arg1) (arg m c main_arg2) (arg m c main_arg3) (arg m c main_arg4) := by
  rw [show Cert.Reference9Ideal.Read.val_main_v128 (F := Ideal) (arg m c main_arg0) (arg m c main_arg1) (arg m c main_arg2) (arg m c main_arg3) (arg m c main_arg4) = (fun y : S8192x1024.Idx =>
      proj (mixed (fX (arg m c main_arg0)) (fG (arg m c main_arg1)) (fM (arg m c main_arg2)) (fMu (arg m c main_arg3) 0)) (fW (arg m c main_arg4)) (y 0) (y 1)) from
    ext2 fun r n => v128_at _ _ _ _ _ r n]
  refine (dats m 0 c).arrAt_eq_of_covers 21 _ (by decide +kernel) fun t hf y => ?_
  blk_simp
  rw [after0_21, out21 _ _ _ _ _ _ _ _ _ _ _ _ _ _ _ _ _ _ _ _ _ _ (tok m c t) y]
  have E0 : ((((cfg0.win 21).blk t).view.emb y) 0).val = t.val * 256 + (y 0).val := by blk_simp [idxo t]
  have E1 : ((((cfg0.win 21).blk t).view.emb y) 1).val = (y 1).val := by blk_simp [idxo t]
  beta_reduce
  rw [w6]
  exact place _ E0 E1

theorem arr22 (c : Dev nD) : (dats m 0 c).arrAt 22 cfg0.N
    = Cert.Reference9Ideal.Read.val_main_v129 (F := Ideal) (arg m c main_arg0) (arg m c main_arg1) (arg m c main_arg2) (arg m c main_arg3) (arg m c main_arg6) := by
  rw [show Cert.Reference9Ideal.Read.val_main_v129 (F := Ideal) (arg m c main_arg0) (arg m c main_arg1) (arg m c main_arg2) (arg m c main_arg3) (arg m c main_arg6) = (fun y : S8192x1024.Idx =>
      proj (mixed (fX (arg m c main_arg0)) (fG (arg m c main_arg1)) (fM (arg m c main_arg2)) (fMu (arg m c main_arg3) 3)) (fW (arg m c main_arg6)) (y 0) (y 1)) from
    ext2 fun r n => v129_at _ _ _ _ _ r n]
  refine (dats m 0 c).arrAt_eq_of_covers 22 _ (by decide +kernel) fun t hf y => ?_
  blk_simp
  rw [after0_22, out22 _ _ _ _ _ _ _ _ _ _ _ _ _ _ _ _ _ _ _ _ _ _ (tok m c t) y]
  have E0 : ((((cfg0.win 22).blk t).view.emb y) 0).val = t.val * 256 + (y 0).val := by blk_simp [idxo t]
  have E1 : ((((cfg0.win 22).blk t).view.emb y) 1).val = (y 1).val := by blk_simp [idxo t]
  beta_reduce
  rw [w8]
  exact place _ E0 E1

theorem arr24 (c : Dev nD) : (dats m 0 c).arrAt 24 cfg0.N
    = Cert.Reference9Ideal.Read.val_main_v130 (F := Ideal) (arg m c main_arg0) (arg m c main_arg1) (arg m c main_arg2) (arg m c main_arg3) (arg m c main_arg7) (arg m c main_arg8) := by
  rw [show Cert.Reference9Ideal.Read.val_main_v130 (F := Ideal) (arg m c main_arg0) (arg m c main_arg1) (arg m c main_arg2) (arg m c main_arg3) (arg m c main_arg7) (arg m c main_arg8) = (fun y : S8192x1024.Idx =>
      gated (mixed (fX (arg m c main_arg0)) (fG (arg m c main_arg1)) (fM (arg m c main_arg2)) (fMu (arg m c main_arg3) 5)) (fG1 (arg m c main_arg7)) (fG2 (arg m c main_arg8)) (y 0) (y 1)) from
    ext2 fun r n => v130_at _ _ _ _ _ _ r n]
  refine (dats m 0 c).arrAt_eq_of_covers 24 _ (by decide +kernel) fun t hf y => ?_
  blk_simp
  rw [after0_24, out24 _ _ _ _ _ _ _ _ _ _ _ _ _ _ _ _ _ _ _ _ _ _ (tok m c t) y]
  have E0 : ((((cfg0.win 24).blk t).view.emb y) 0).val = t.val * 256 + (y 0).val := by blk_simp [idxo t]
  have E1 : ((((cfg0.win 24).blk t).view.emb y) 1).val = (y 1).val := by blk_simp [idxo t]
  beta_reduce
  rw [w9, w10]
  exact place _ E0 E1

theorem arr26 (c : Dev nD) : (dats m 0 c).arrAt 26 cfg0.N
    = Cert.Reference9Ideal.Read.val_main_v131 (F := Ideal) (arg m c main_arg0) (arg m c main_arg1) (arg m c main_arg2) (arg m c main_arg3) (arg m c main_arg9) (arg m c main_arg10) (arg m c main_arg11) := by
  rw [show Cert.Reference9Ideal.Read.val_main_v131 (F := Ideal) (arg m c main_arg0) (arg m c main_arg1) (arg m c main_arg2) (arg m c main_arg3) (arg m c main_arg9) (arg m c main_arg10) (arg m c main_arg11) = (fun y : S2x8192x1024.Idx =>
      decay (mixed (fX (arg m c main_arg0)) (fG (arg m c main_arg1)) (fM (arg m c main_arg2)) (fMu (arg m c main_arg3) 1)) (fB (arg m c main_arg9) (y 0)) (fD (arg m c main_arg10) (y 0))
        (fU (arg m c main_arg11) (y 0)) (y 1) (y 2)) from
    ext3 fun j r n => v131_at _ _ _ _ _ _ _ j r n]
  refine (dats m 0 c).arrAt_eq_of_covers 26 _ (by decide +kernel) fun t hf y => ?_
  blk_simp
  rw [after0_26, out26 _ _ _ _ _ _ _ _ _ _ _ _ _ _ _ _ _ _ _ _ _ _ (tok m c t) y]
  have E : ((((cfg0.win 26).blk t).view.emb y) 0) = y 0 := Fin.ext (by blk_simp [idxo t])
  have E0 : ((((cfg0.win 26).blk t).view.emb y) 1).val = t.val * 256 + (y 1).val := by blk_simp [idxo t]
  have E1 : ((((cfg0.win 26).blk t).view.emb y) 2).val = (y 2).val := by blk_simp [idxo t]
  beta_reduce
  rw [w11 m c t (y 0), w12 m c t (y 0), w13 m c t (y 0), E]
  exact place _ E0 E1

theorem arr27 (c : Dev nD) : (dats m 0 c).arrAt 27 cfg0.N
    = Cert.Reference9Ideal.Read.val_main_v132 (F := Ideal) (arg m c main_arg0) (arg m c main_arg1) (arg m c main_arg2) (arg m c main_arg3) (arg m c main_arg5) (arg m c main_arg12) (arg m c main_arg13) (arg m c main_arg14) (arg m c main_arg16) := by
  rw [show Cert.Reference9Ideal.Read.val_main_v132 (F := Ideal) (arg m c main_arg0) (arg m c main_arg1) (arg m c main_arg2) (arg m c main_arg3) (arg m c main_arg5) (arg m c main_arg12) (arg m c main_arg13) (arg m c main_arg14) (arg m c main_arg16) = (fun y : S2x8192x1024.Idx =>
      keyed (mixed (fX (arg m c main_arg0)) (fG (arg m c main_arg1)) (fM (arg m c main_arg2)) (fMu (arg m c main_arg3) 2))
        (mixed (fX (arg m c main_arg0)) (fG (arg m c main_arg1)) (fM (arg m c main_arg2)) (fMu (arg m c main_arg3) 4)) (fW (arg m c main_arg5))
        (fB (arg m c main_arg12) (y 0)) (fD (arg m c main_arg13) (y 0)) (fU (arg m c main_arg14) (y 0)) (fG (arg m c main_arg16)) (y 1) (y 2)) from
    ext3 fun j r n => v132_at _ _ _ _ _ _ _ _ _ j r n]
  refine (dats m 0 c).arrAt_eq_of_covers 27 _ (by decide +kernel) fun t hf y => ?_
  blk_simp
  rw [after0_27, out27 _ _ _ _ _ _ _ _ _ _ _ _ _ _ _ _ _ _ _ _ _ _ (tok m c t) y]
  have E : ((((cfg0.win 27).blk t).view.emb y) 0) = y 0 := Fin.ext (by blk_simp [idxo t])
  have E0 : ((((cfg0.win 27).blk t).view.emb y) 1).val = t.val * 256 + (y 1).val := by blk_simp [idxo t]
  have E1 : ((((cfg0.win 27).blk t).view.emb y) 2).val = (y 2).val := by blk_simp [idxo t]
  beta_reduce
  rw [w7, w14 m c t (y 0), w15 m c t (y 0), w16 m c t (y 0), w18, E]
  exact place _ E0 E1

end Cert.Kernel9Ideal.Final

end
-- ==== Proof.RwkvRun.lean ====
/- The run of the idealised kernel of the mixing projections with each result array named: the text is the generated
   one's, over the frame of RwkvFrame. -/
module

public import proofs.«01_k».proof.Proof.RwkvFrame
public import Idealize.ShloMosaic.Lib.Pipeline.Value

@[expose] public section

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v15_0) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v15_1) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v15_2) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v15_3) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v15_4) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v15_5) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v15_6) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v15_7) = (dats m 0 c).arrAt 28 cfg0.N :=
  (h c).1 28

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: input window 8 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- After the frame run, argument `main_arg7` is as launched: input window 9 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- After the frame run, argument `main_arg8` is as launched: input window 10 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 10).trans (((dats m 0 c).arrAt_in 10 rfl _).trans ((A_eq m c 10).trans (V_main_arg8 m c)))

/-- After the frame run, argument `main_arg9` is as launched: input window 11 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 11).trans (((dats m 0 c).arrAt_in 11 rfl _).trans ((A_eq m c 11).trans (V_main_arg9 m c)))

/-- After the frame run, argument `main_arg10` is as launched: input window 12 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 12).trans (((dats m 0 c).arrAt_in 12 rfl _).trans ((A_eq m c 12).trans (V_main_arg10 m c)))

/-- After the frame run, argument `main_arg11` is as launched: input window 13 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 13).trans (((dats m 0 c).arrAt_in 13 rfl _).trans ((A_eq m c 13).trans (V_main_arg11 m c)))

/-- After the frame run, argument `main_arg12` is as launched: input window 14 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 14).trans (((dats m 0 c).arrAt_in 14 rfl _).trans ((A_eq m c 14).trans (V_main_arg12 m c)))

/-- After the frame run, argument `main_arg13` is as launched: input window 15 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 15).trans (((dats m 0 c).arrAt_in 15 rfl _).trans ((A_eq m c 15).trans (V_main_arg13 m c)))

/-- After the frame run, argument `main_arg14` is as launched: input window 16 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 16).trans (((dats m 0 c).arrAt_in 16 rfl _).trans ((A_eq m c 16).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 21 cfg0.N
      ∧ r.2.mem ((c : Thread nD τ).loc main_v15_1) = (dats m 0 c).arrAt 22 cfg0.N
      ∧ r.2.mem ((c : Thread nD τ).loc main_v15_2) = (dats m 0 c).arrAt 23 cfg0.N
      ∧ r.2.mem ((c : Thread nD τ).loc main_v15_3) = (dats m 0 c).arrAt 24 cfg0.N
      ∧ r.2.mem ((c : Thread nD τ).loc main_v15_4) = (dats m 0 c).arrAt 25 cfg0.N
      ∧ r.2.mem ((c : Thread nD τ).loc main_v15_5) = (dats m 0 c).arrAt 26 cfg0.N
      ∧ r.2.mem ((c : Thread nD τ).loc main_v15_6) = (dats m 0 c).arrAt 27 cfg0.N
      ∧ r.2.mem ((c : Thread nD τ).loc main_v15_7) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.Kernel9Ideal.Value

end
-- ==== Proof.PairRwkv.lean ====
/- The mixing projections: both runs, and the equal results. -/
module

public import proofs.«01_k».proof.Defs
public import proofs.«01_k».proof.Proof.RwkvArr
public import proofs.«01_k».proof.Proof.RwkvRun
public import proofs.«01_k».proof.Proof.Gen.Reference9Ideal.Run
public import proofs.«01_k».proof.Proof.Gen.Reference9Ideal.Read
public import Idealize.ShloMosaic.Lib.Claim
public import Idealize.ShloMosaic.Lib.Quiescent

@[expose] public section

set_option maxRecDepth 16384

noncomputable section

namespace Cert.Pairs

open Idealize.ShloMosaic Idealize.SL.Sem

set_option maxHeartbeats 1000000 in
theorem alg9 : Cert.algebraic_Kernel9Ideal_Reference9Ideal := by
  pair_intro
  · run_from Cert.Kernel9Ideal.Value.run_blocks m g
  · run_from Cert.Reference9Ideal.Value.run m' g'
    · obtain ⟨a0, a1, a2, a3, a4, _⟩ := hagree c
      refine (Cert.Reference9Ideal.Read.val_main_v128_eq m' c).trans ?_
      rw [a0, a1, a2, a3, a4]
      exact (Cert.Kernel9Ideal.Final.arr21 m c).symm
    · obtain ⟨a0, a1, a2, a3, _, _, a6, _⟩ := hagree c
      refine (Cert.Reference9Ideal.Read.val_main_v129_eq m' c).trans ?_
      rw [a0, a1, a2, a3, a6]
      exact (Cert.Kernel9Ideal.Final.arr22 m c).symm
    · obtain ⟨a0, a1, a2, a3, _, _, _, a7, a8, _⟩ := hagree c
      refine (Cert.Reference9Ideal.Read.val_main_v130_eq m' c).trans ?_
      rw [a0, a1, a2, a3, a7, a8]
      exact (Cert.Kernel9Ideal.Final.arr24 m c).symm
    · obtain ⟨a0, a1, a2, a3, _, _, _, _, _, a9, a10, a11, _⟩ := hagree c
      refine (Cert.Reference9Ideal.Read.val_main_v131_eq m' c).trans ?_
      rw [a0, a1, a2, a3, a9, a10, a11]
      exact (Cert.Kernel9Ideal.Final.arr26 m c).symm
    · obtain ⟨a0, a1, a2, a3, _, a5, _, _, _, _, _, _, a12, a13, a14, _, a16, _⟩ := hagree c
      refine (Cert.Reference9Ideal.Read.val_main_v132_eq m' c).trans ?_
      rw [a0, a1, a2, a3, a5, a12, a13, a14, a16]
      exact (Cert.Kernel9Ideal.Final.arr27 m c).symm

theorem still9 : Cert.quiescent_Reference9Ideal := by
  intro m g _
  hlo_run
  · simp
  · exact sem_eq_zero_of_no_sems (sig := Cert.Reference9Ideal.sig) (by decide) _

end Cert.Pairs

end
-- ==== Proof.RefFrames.lean ====
/- The references' runs: the arguments end unchanged and the counters at zero. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Lib.Claim
public import Idealize.ShloMosaic.Lib.Quiescent

@[expose] public section

set_option maxRecDepth 16384

noncomputable section

namespace Cert.Pairs

open Idealize.ShloMosaic Idealize.SL.Sem

theorem still1 : Cert.quiescent_ReferenceIdeal := by
  intro m g _
  hlo_run
  · simp
  · exact sem_eq_zero_of_no_sems (sig := Cert.ReferenceIdeal.sig) (by decide) _

theorem still2 : Cert.quiescent_Reference2Ideal := by
  intro m g _
  hlo_run
  · simp
  · exact sem_eq_zero_of_no_sems (sig := Cert.Reference2Ideal.sig) (by decide) _

theorem still3 : Cert.quiescent_Reference3Ideal := by
  intro m g _
  hlo_run
  · simp
  · exact sem_eq_zero_of_no_sems (sig := Cert.Reference3Ideal.sig) (by decide) _

theorem still4 : Cert.quiescent_Reference4Ideal := by
  intro m g _
  hlo_run
  · simp
  · exact sem_eq_zero_of_no_sems (sig := Cert.Reference4Ideal.sig) (by decide) _

theorem still5 : Cert.quiescent_Reference5Ideal := by
  intro m g _
  hlo_run
  · simp
  · exact sem_eq_zero_of_no_sems (sig := Cert.Reference5Ideal.sig) (by decide) _

theorem still6 : Cert.quiescent_Reference6Ideal := by
  intro m g _
  hlo_run
  · simp
  · exact sem_eq_zero_of_no_sems (sig := Cert.Reference6Ideal.sig) (by decide) _

theorem still7 : Cert.quiescent_Reference7Ideal := by
  intro m g _
  hlo_run
  · simp
  · exact sem_eq_zero_of_no_sems (sig := Cert.Reference7Ideal.sig) (by decide) _

theorem still8 : Cert.quiescent_Reference8Ideal := by
  intro m g _
  hlo_run
  · simp
  · exact sem_eq_zero_of_no_sems (sig := Cert.Reference8Ideal.sig) (by decide) _

end Cert.Pairs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Reference9Ideal.Read
public import proofs.«01_k».proof.Proof.Pairs
public import proofs.«01_k».proof.Proof.PairAttn
public import proofs.«01_k».proof.Proof.PairSeq
public import proofs.«01_k».proof.Proof.PairRwkv
public import proofs.«01_k».proof.Proof.RwkvFrameBits
public import proofs.«01_k».proof.Proof.RefFrames
public import proofs.«01_k».proof.Proof.Finite
public import Idealize.ShloMosaic.Adequacy
public import Idealize.ShloMosaic.Init

@[expose] public section

noncomputable section

namespace Cert.Proof

open Idealize.ShloMosaic Idealize.SL.Sem

/-- Every program runs and keeps its arguments, and each kernel ends at its reference's results. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    inferInstance,
    inferInstance,
    fun m g _ => Cert.Kernel.Gen.frame m g,
    fun m g _ => Cert.KernelIdeal.Gen.frame m g,
    fun m g _ => Cert.KernelIdeal.Gen.frame m g,
    Cert.Pairs.still1,
    fun m g _ => Cert.Pairs.still1 m g trivial,
    fun m g _ => Cert.Kernel2.Gen.frame m g,
    fun m g _ => Cert.Kernel2Ideal.Gen.frame m g,
    Cert.Pairs.still2,
    fun m g _ => Cert.Kernel3.Gen.frame m g,
    fun m g _ => Cert.Kernel3Ideal.Gen.frame m g,
    Cert.Pairs.still3,
    fun m g _ => Cert.Kernel4.Gen.frame m g,
    fun m g _ => Cert.Kernel4Ideal.Gen.frame m g,
    Cert.Pairs.still4,
    fun m g _ => Cert.Kernel5.Gen.frame m g,
    fun m g _ => Cert.Kernel5Ideal.Gen.frame m g,
    Cert.Pairs.still5,
    fun m g _ => Cert.Kernel6.Gen.frame m g,
    fun m g _ => Cert.Kernel6Ideal.Gen.frame m g,
    Cert.Pairs.still6,
    fun m g _ => Cert.Kernel7.Gen.frame m g,
    fun m g _ => Cert.Kernel7Ideal.Gen.frame m g,
    fun m g _ => Cert.Kernel7Ideal.Gen.frame m g,
    Cert.Pairs.still7,
    fun m g _ => Cert.Pairs.still7 m g trivial,
    fun m g _ => Cert.Kernel8.Gen.frame m g,
    fun m g _ => Cert.Kernel8Ideal.Gen.frame m g,
    Cert.Pairs.still8,
    fun m g _ => Cert.Kernel9.Gen.frame m g,
    fun m g _ => Cert.Kernel9Ideal.Gen.frame m g,
    Cert.Pairs.still9,
    trivial,
    Cert.Pairs.alg1,
    trivial,
    Cert.Pairs.alg2,
    trivial,
    Cert.Pairs.alg3,
    trivial,
    Cert.Pairs.alg4,
    trivial,
    Cert.Pairs.alg5,
    trivial,
    Cert.Pairs.alg6,
    trivial,
    Cert.Pairs.alg7,
    trivial,
    Cert.Pairs.alg8,
    trivial,
    Cert.Pairs.alg9⟩

end Cert.Proof

end
